-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ bitexact_Kernel_Reference (hKernel := hKernel) (hReference := hReference) (hPre_in_range := hPre_in_range)
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x32 : Shape := ⟨2, ![1000000, 32]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x32 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x32 : Shape := ⟨2, ![1000000, 32]⟩
abbrev S32x1000000 : Shape := ⟨2, ![32, 1000000]⟩
abbrev S_ : Shape := ⟨0, ![]⟩
abbrev S32x1000064 : Shape := ⟨2, ![32, 1000064]⟩
abbrev S32x16384 : Shape := ⟨2, ![32, 16384]⟩
abbrev S512 : Shape := ⟨1, ![512]⟩
abbrev S2x8x32x128 : Shape := ⟨4, ![2, 8, 32, 128]⟩
abbrev S32x512 : Shape := ⟨2, ![32, 512]⟩
abbrev S2 : Shape := ⟨1, ![2]⟩
abbrev S16 : Shape := ⟨1, ![16]⟩
abbrev S1 : Shape := ⟨1, ![1]⟩
abbrev S1x1x32x128 : Shape := ⟨4, ![1, 1, 32, 128]⟩
abbrev S32x128 : Shape := ⟨2, ![32, 128]⟩
abbrev S1x8x32x128 : Shape := ⟨4, ![1, 8, 32, 128]⟩
abbrev S8x32x128 : Shape := ⟨3, ![8, 32, 128]⟩
abbrev S32x1024 : Shape := ⟨2, ![32, 1024]⟩
abbrev S16384x32 : Shape := ⟨2, ![16384, 32]⟩

abbrev nBuf : Table → Nat
  | .hbm => 8
  | .local .scVector .vmem => 3
  | _ => 0

abbrev bufTy : (tb : Table) → Fin (nBuf tb) → BufTy
  | .hbm, ⟨0, _⟩ => ⟨S16384, .i32⟩
  | .hbm, ⟨1, _⟩ => ⟨S1000000x32, .f32⟩
  | .hbm, ⟨2, _⟩ => ⟨S32x1000000, .f32⟩
  | .hbm, ⟨3, _⟩ => ⟨S_, .i32⟩
  | .hbm, ⟨4, _⟩ => ⟨S_, .f32⟩
  | .hbm, ⟨5, _⟩ => ⟨S32x1000064, .f32⟩
  | .hbm, ⟨6, _⟩ => ⟨S32x16384, .f32⟩
  | .hbm, ⟨7, _⟩ => ⟨S16384x32, .f32⟩
  | .local .scVector .vmem, ⟨0, _⟩ => ⟨S512, .i32⟩
  | .local .scVector .vmem, ⟨1, _⟩ => ⟨S2x8x32x128, .f32⟩
  | .local .scVector .vmem, ⟨2, _⟩ => ⟨S32x512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩

def k0_chk1 (v8 : IVec S16 32) : Prop :=
  (∀ a x, ((![v8] : Fin 1 → IVec S16 32) a x).toNat < S512.size a)
theorem k0_idx1_inb : ∀ (v8 : IVec S16 32) (k0_hw1 : k0_chk1 v8), ∀ a x, ((![v8] : Fin 1 → IVec S16 32) a x).toNat < S512.size a := fun v8 k0_hw1 => k0_hw1
def k0_mult1 (v11 : BitVec 32) : BitVec 32 :=
  let c7_i32 : BitVec 32 := 7#32
  let v12 : BitVec 32 := Scalar.shrui v11 c7_i32
  let c128_i32 : BitVec 32 := 128#32
  let v13 : BitVec 32 := Scalar.muli v12 c128_i32
  v13

def k0_off2 (k0_t1 : Fin k0_t1_loop.trips) : Fin 4 → Nat :=
  let c0_i32_7 : BitVec 32 := 0#32
  let c2_i32_8 : BitVec 32 := 2#32
  let v15 : BitVec 32 := Scalar.remsi c0_i32_7 c2_i32_8
  let c0_i32_0 : BitVec 32 := 0#32
  let c1_i32 : BitVec 32 := 1#32
  let arg9 : BitVec 32 := Scf.iv c0_i32_0 c1_i32 k0_t1
  let c0_i32_11 : BitVec 32 := 0#32
  let c0_i32_12 : BitVec 32 := 0#32
  ![v15.toNat, arg9.toNat, 0, 0]
def k0_off3 (v11 : BitVec 32) : Fin 2 → Nat :=
  let c0_i32_13 : BitVec 32 := 0#32
  let c7_i32 : BitVec 32 := 7#32
  let v12 : BitVec 32 := Scalar.shrui v11 c7_i32
  let c128_i32 : BitVec 32 := 128#32
  let v13 : BitVec 32 := Scalar.muli v12 c128_i32
  let v14 : BitVec 32 := v13
  ![0, v14.toNat]

def k0_chk2 (v11 : BitVec 32) : Prop :=
  (128 ∣ (k0_mult1 v11).toNat) ∧
  (∀ a, (k0_off3 v11) a + S32x128.size a ≤ S32x1000064.size a)
theorem k0_mult1_dvd : ∀ (v11 : BitVec 32) (k0_hw2 : k0_chk2 v11), 128 ∣ (k0_mult1 v11).toNat := fun v11 k0_hw2 => k0_hw2.1
theorem k0_off3_inb : ∀ (v11 : BitVec 32) (k0_hw2 : k0_chk2 v11), ∀ a, (k0_off3 v11) a + S32x128.size a ≤ S32x1000064.size a := fun v11 k0_hw2 => k0_hw2.2

def k0_off4 : Fin 1 → Nat :=
  let c0_i32_9 : BitVec 32 := 0#32
  let c2_i32_10 : BitVec 32 := 2#32
  let v16 : BitVec 32 := Scalar.remsi c0_i32_9 c2_i32_10
  ![v16.toNat]
@[reducible] def k0_t2_loop : Scf.Loop 32 :=
  let c0_i32_3 : BitVec 32 := 0#32
  let c64_i32 : BitVec 32 := 64#32
  let v5 : BitVec 32 := Scalar.addi c0_i32_3 c64_i32
  let c1_i32_4 : BitVec 32 := 1#32
  ⟨c0_i32_3, v5, c1_i32_4⟩
def k0_cond1 (k0_t2 : Fin k0_t2_loop.trips) : BitVec 1 :=
  let c0_i32_3 : BitVec 32 := 0#32
  let c1_i32_4 : BitVec 32 := 1#32
  let arg9 : BitVec 32 := Scf.iv c0_i32_3 c1_i32_4 k0_t2
  let c1_i32_6 : BitVec 32 := 1#32
  let v7 : BitVec 32 := Scalar.addi arg9 c1_i32_6
  let c64_i32_7 : BitVec 32 := 64#32
  let v8 : BitVec 1 := Scalar.cmpi .slt v7 c64_i32_7
  let v9 : BitVec 32 := Scalar.extui v8
  let c0_i32_8 : BitVec 32 := 0#32
  let v10 : BitVec 1 := Scalar.cmpi .ne v9 c0_i32_8
  v10

@[reducible] def k0_t3_loop : Scf.Loop 32 :=
  let c0_i32_29 : BitVec 32 := 0#32
  let c8_i32_30 : BitVec 32 := 8#32
  let v24 : BitVec 32 := Scalar.addi c0_i32_29 c8_i32_30
  let c1_i32_31 : BitVec 32 := 1#32
  ⟨c0_i32_29, v24, c1_i32_31⟩

def k0_chk3 (k0_t2 : Fin k0_t2_loop.trips) (v28 : IVec S16 32) : Prop :=
  (∀ (k0_h1 : k0_cond1 k0_t2 = 1#1), ∀ a x, ((![v28] : Fin 1 → IVec S16 32) a x).toNat < S512.size a)
theorem k0_idx2_inb : ∀ (k0_t2 : Fin k0_t2_loop.trips) (v28 : IVec S16 32) (k0_hw3 : k0_chk3 k0_t2 v28), ∀ (k0_h1 : k0_cond1 k0_t2 = 1#1), ∀ a x, ((![v28] : Fin 1 → IVec S16 32) a x).toNat < S512.size a := fun k0_t2 v28 k0_hw3 k0_h1 => k0_hw3 k0_h1
def k0_mult2 (v31 : BitVec 32) : BitVec 32 :=
  let c7_i32 : BitVec 32 := 7#32
  let v32 : BitVec 32 := Scalar.shrui v31 c7_i32
  let c128_i32 : BitVec 32 := 128#32
  let v33 : BitVec 32 := Scalar.muli v32 c128_i32
  v33

def k0_off5 (k0_t2 : Fin k0_t2_loop.trips) (k0_t3 : Fin k0_t3_loop.trips) : Fin 4 → Nat :=
  let c0_i32_3 : BitVec 32 := 0#32
  let c1_i32_4 : BitVec 32 := 1#32
  let arg9 : BitVec 32 := Scf.iv c0_i32_3 c1_i32_4 k0_t2
  let c1_i32_27 : BitVec 32 := 1#32
  let v23 : BitVec 32 := Scalar.addi arg9 c1_i32_27
  let c2_i32_34 : BitVec 32 := 2#32
  let v35 : BitVec 32 := Scalar.remsi v23 c2_i32_34
  let c0_i32_29 : BitVec 32 := 0#32
  let c1_i32_31 : BitVec 32 := 1#32
  let arg11 : BitVec 32 := Scf.iv c0_i32_29 c1_i32_31 k0_t3
  let c0_i32_36 : BitVec 32 := 0#32
  let c0_i32_37 : BitVec 32 := 0#32
  ![v35.toNat, arg11.toNat, 0, 0]
def k0_off6 (v31 : BitVec 32) : Fin 2 → Nat :=
  let c0_i32_38 : BitVec 32 := 0#32
  let c7_i32 : BitVec 32 := 7#32
  let v32 : BitVec 32 := Scalar.shrui v31 c7_i32
  let c128_i32 : BitVec 32 := 128#32
  let v33 : BitVec 32 := Scalar.muli v32 c128_i32
  let v34 : BitVec 32 := v33
  ![0, v34.toNat]

def k0_chk4 (k0_t2 : Fin k0_t2_loop.trips) (v31 : BitVec 32) : Prop :=
  (∀ (k0_h1 : k0_cond1 k0_t2 = 1#1), 128 ∣ (k0_mult2 v31).toNat) ∧
  (∀ (k0_h1 : k0_cond1 k0_t2 = 1#1), ∀ a, (k0_off6 v31) a + S32x128.size a ≤ S32x1000064.size a)
theorem k0_mult2_dvd : ∀ (k0_t2 : Fin k0_t2_loop.trips) (v31 : BitVec 32) (k0_hw4 : k0_chk4 k0_t2 v31), ∀ (k0_h1 : k0_cond1 k0_t2 = 1#1), 128 ∣ (k0_mult2 v31).toNat := fun k0_t2 v31 k0_hw4 k0_h1 => k0_hw4.1 k0_h1
theorem k0_off6_inb : ∀ (k0_t2 : Fin k0_t2_loop.trips) (v31 : BitVec 32) (k0_hw4 : k0_chk4 k0_t2 v31), ∀ (k0_h1 : k0_cond1 k0_t2 = 1#1), ∀ a, (k0_off6 v31) a + S32x128.size a ≤ S32x1000064.size a := fun k0_t2 v31 k0_hw4 k0_h1 => k0_hw4.2 k0_h1

def k0_off7 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c1_i32_27 : BitVec 32 := 1#32
  let v23 : BitVec 32 := Scalar.addi arg9 c1_i32_27
  let c2_i32_35 : BitVec 32 := 2#32
  let v36 : BitVec 32 := Scalar.remsi v23 c2_i32_35
  ![v36.toNat]
def k0_off8 (k0_t2 : Fin k0_t2_loop.trips) : Fin 4 → Nat :=
  let c0_i32_3 : BitVec 32 := 0#32
  let c1_i32_4 : BitVec 32 := 1#32
  let arg9 : BitVec 32 := Scf.iv c0_i32_3 c1_i32_4 k0_t2
  let c2_i32_9 : BitVec 32 := 2#32
  let v11 : BitVec 32 := Scalar.remsi arg9 c2_i32_9
  let c0_i32_11 : BitVec 32 := 0#32
  let c0_i32_12 : BitVec 32 := 0#32
  let c0_i32_13 : BitVec 32 := 0#32
  ![v11.toNat, 0, 0, 0]
def k0_off9 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c2_i32_10 : BitVec 32 := 2#32
  let v12 : BitVec 32 := Scalar.remsi arg9 c2_i32_10
  ![v12.toNat]
@[reducible] def k0_t4_loop : Scf.Loop 32 :=
  let c0_i32_22 : BitVec 32 := 0#32
  let c8_i32_23 : BitVec 32 := 8#32
  let v21 : BitVec 32 := Scalar.addi c0_i32_22 c8_i32_23
  let c1_i32_24 : BitVec 32 := 1#32
  ⟨c0_i32_22, v21, c1_i32_24⟩

def k0_chk5 (v25 : IVec S16 32) : Prop :=
  (∀ a x, ((![v25] : Fin 1 → IVec S16 32) a x).toNat < S512.size a)
theorem k0_idx3_inb : ∀ (v25 : IVec S16 32) (k0_hw5 : k0_chk5 v25), ∀ a x, ((![v25] : Fin 1 → IVec S16 32) a x).toNat < S512.size a := fun v25 k0_hw5 => k0_hw5

def k0_chk6 (v30 : IVec S16 32) (v31 : IVec S16 32) (v33 : IVec S16 32) (v36 : IVec S16 32) (v39 : IVec S16 32) : Prop :=
  (∀ a x, ((![v33, v31, v39, v30] : Fin 4 → IVec S16 32) a x).toNat < S2x8x32x128.size a) ∧
  (∀ a x, ((![v39, v36] : Fin 2 → IVec S16 32) a x).toNat < S32x512.size a)
theorem k0_idx4_inb : ∀ (v30 : IVec S16 32) (v31 : IVec S16 32) (v33 : IVec S16 32) (v36 : IVec S16 32) (v39 : IVec S16 32) (k0_hw6 : k0_chk6 v30 v31 v33 v36 v39), ∀ a x, ((![v33, v31, v39, v30] : Fin 4 → IVec S16 32) a x).toNat < S2x8x32x128.size a := fun v30 v31 v33 v36 v39 k0_hw6 => k0_hw6.1
theorem k0_idx5_inb : ∀ (v30 : IVec S16 32) (v31 : IVec S16 32) (v33 : IVec S16 32) (v36 : IVec S16 32) (v39 : IVec S16 32) (k0_hw6 : k0_chk6 v30 v31 v33 v36 v39), ∀ a x, ((![v39, v36] : Fin 2 → IVec S16 32) a x).toNat < S32x512.size a := fun v30 v31 v33 v36 v39 k0_hw6 => k0_hw6.2

def k0_chk7 (v30 : IVec S16 32) (v31 : IVec S16 32) (v33 : IVec S16 32) (v36 : IVec S16 32) (v43 : IVec S16 32) : Prop :=
  (∀ a x, ((![v33, v31, v43, v30] : Fin 4 → IVec S16 32) a x).toNat < S2x8x32x128.size a) ∧
  (∀ a x, ((![v43, v36] : Fin 2 → IVec S16 32) a x).toNat < S32x512.size a)
theorem k0_idx6_inb : ∀ (v30 : IVec S16 32) (v31 : IVec S16 32) (v33 : IVec S16 32) (v36 : IVec S16 32) (v43 : IVec S16 32) (k0_hw7 : k0_chk7 v30 v31 v33 v36 v43), ∀ a x, ((![v33, v31, v43, v30] : Fin 4 → IVec S16 32) a x).toNat < S2x8x32x128.size a := fun v30 v31 v33 v36 v43 k0_hw7 => k0_hw7.1
theorem k0_idx7_inb : ∀ (v30 : IVec S16 32) (v31 : IVec S16 32) (v33 : IVec S16 32) (v36 : IVec S16 32) (v43 : IVec S16 32) (k0_hw7 : k0_chk7 v30 v31 v33 v36 v43), ∀ a x, ((![v43, v36] : Fin 2 → IVec S16 32) a x).toNat < S32x512.size a := fun v30 v31 v33 v36 v43 k0_hw7 => k0_hw7.2
def k0_off10 (i : grid0.Coords) : Fin 2 → Nat :=
  let c0_i32_6_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x32, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x32, .f32⟩
  | .hbm, ⟨21, _⟩ => ⟨S16384x32, .i1⟩
  | .hbm, ⟨22, _⟩ => ⟨S_, .f32⟩
  | .hbm, ⟨23, _⟩ => ⟨S16384x32, .f32⟩
  | .hbm, ⟨24, _⟩ => ⟨S16384x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Flight.lean ====
/-
  Copies into a buffer that is read while they are in flight.

  A double buffer is gathered from while copies into its other half are outstanding, and the gather names the WHOLE
  buffer. So the half the copies write is kept in write mode (Lib/WriteMode.lean): each copy takes a share of that
  half's write-mode assertion with it and brings it back marked, and the reader keeps a share, which lets it open the
  half for the one step a load takes.

  Three things are here, over any buffer: the shares (`pieceAt k` goes with the `k`-th copy, `restAt k` is what is left
  after `k` of them), the issue of a batch's next copy whose destination is in write mode (`wp_issue`) with the joining
  of what the batch brings back (`collect`), and the gather over a buffer of which one part is held outright and the
  rest in write mode (`wp_gatherBeside`).
-/
module

public import Idealize.ShloMosaic.Lib.WriteMode
public import Idealize.ShloMosaic.Lib.Batch
public import Idealize.ShloMosaic.Lib.SparseCore.Ops
public import Idealize.ShloMosaic.Lib.Tactic

@[expose] public section

noncomputable section

namespace Cert.Proof.Flight

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers

/-! ## Shares -/

/-- What is left of the full share once `k` copies have taken theirs. -/
def restAt : ℕ → PosShare TreeShare
  | 0 => fullShare
  | k + 1 => (restAt k).right

/-- The share the `k`-th copy takes. -/
def pieceAt (k : ℕ) : PosShare TreeShare := (restAt k).left

instance restAt_isOp (k : ℕ) : IsOp (restAt k) (pieceAt k) (restAt (k + 1)) := IsOp.posShare_halves (restAt k)

section

variable {nD : Nat} {τ : Topo} {sig : RefSig} {Ix : Type} [DecidableEq Ix] {Val : EltTy → Type} {Name : Type} [DecidableEq Name]
variable {U : Type} [URA U] {Lvl : Type} [Preorder Lvl] {Λ : Labels} {emb : UEmb (WmRA nD τ sig Val) U}

local notation "𝕄" => MT nD τ sig Ix Val Name U Lvl

/-! ## A share of a read-only buffer -/

/-- Some share of all of `ℓ`, at contents `f`. -/
def Reads (ℓ : Loc nD τ sig) (f : Buf Val ℓ) : sProp 𝕄 := iprop(∃ q : PosShare TreeShare, ℓ ↦[Finset.univ]{q} f)

instance (ℓ : Loc nD τ sig) (f : Buf Val ℓ) : Storable (upEmb : UEmb _ 𝕄) (Reads ℓ f : sProp 𝕄) := by
  unfold Reads; infer_instance

/-- A share halves: one reader makes two. -/
theorem reads_dup (ℓ : Loc nD τ sig) (f : Buf Val ℓ) : (Reads ℓ f : sProp 𝕄) ⊢ iprop(Reads ℓ f ∗ Reads ℓ f) := by
  unfold Reads
  iintro ⟨%q, H⟩
  ihave H' := (pointsTo_share (PosShare.mem_left_op_right q)).1 $$ H
  icases H' with ⟨Hl, Hr⟩
  isplitl [Hl]
  · iexists _; iexact Hl
  · iexists _; iexact Hr

/-- One reader makes a reader for each of a finite set, and is left over. -/
theorem reads_spread (ℓ : Loc nD τ sig) (f : Buf Val ℓ) {A : Type} [DecidableEq A] (s : Finset A) :
    (Reads ℓ f : sProp 𝕄) ⊢ iprop((bigSep s fun _ => Reads ℓ f) ∗ Reads ℓ f) := by
  induction s using Finset.induction_on with
  | empty =>
    rw [bigSep_empty]
    iintro H
    isplitr
    · exact .rfl
    · iexact H
  | insert a s ha ih =>
    rw [show (bigSep (insert a s) fun _ => Reads ℓ f : sProp 𝕄) = iprop(Reads ℓ f ∗ bigSep s fun _ => Reads ℓ f) from bigSep_insert ha]
    iintro H
    ihave H' := ih $$ H
    icases H' with ⟨Hs, H⟩
    ihave H' := (reads_dup ℓ f) $$ H
    icases H' with ⟨H1, H2⟩
    isplitl [H1 Hs]
    · isplitl [H1] <;> iassumption
    · iexact H2

/-- A part of what a reader holds, at some share, the reader kept. -/
theorem reads_part (ℓ : Loc nD τ sig) (f : Buf Val ℓ) (I : Finset (Idx ℓ)) :
    (Reads ℓ f : sProp 𝕄) ⊢ iprop((∃ q : PosShare TreeShare, ℓ ↦[I]{q} f) ∗ Reads ℓ f) := by
  iintro H
  ihave H' := (reads_dup ℓ f) $$ H
  icases H' with ⟨H1, H2⟩
  isplitl [H1]
  · unfold Reads
    icases H1 with ⟨%q, H⟩
    ihave H' := (pointsTo_split_subset (q := q) (f := f) (S := Finset.univ) (Finset.subset_univ I)).1 $$ H
    icases H' with ⟨H, -⟩
    iexists q; iexact H
  · iexact H2

/-! ## Issuing -/

/-- What the `k`-th copy brings back: its share of the written elements `S`, those of `mark k` marked. -/
def Landed (emb : UEmb (WmRA nD τ sig Val) U) {n : ℕ} (ℓ : Loc nD τ sig) (S : Finset (Idx ℓ)) (f : Buf Val ℓ) (g : Tgt Val ℓ)
    (mark : Fin n → Finset (Idx ℓ)) (k : Fin n) : sProp 𝕄 := willBeTo emb ℓ S (pieceAt k.val) f g (mark k)

instance landed_storable {n : ℕ} (ℓ : Loc nD τ sig) (S : Finset (Idx ℓ)) (f : Buf Val ℓ) (g : Tgt Val ℓ)
    (mark : Fin n → Finset (Idx ℓ)) (k : Fin n) : Storable (upEmb : UEmb _ 𝕄) (Landed emb ℓ S f g mark k : sProp 𝕄) := by
  unfold Landed; infer_instance

variable (EC : UEmb Counters (MT nD τ sig Ix Val Name U Lvl))
variable {defs : Defs nD τ sig Val Λ} (𝒱 : Variants) (c : Thread nD τ) (bd : Option 𝒱.V)
variable {α : Type} {Q : α → sProp (MT nD τ sig Ix Val Name U Lvl)} {sp sp' : Space} {s : Shape} {e : EltTy} {n : ℕ}

/-- The batch's next copy, from a buffer that is only read into elements in write mode: it takes its share of them along. -/
theorem wp_issue [Infinite Name] [EC.LandsIn (upEmb : UEmb _ 𝕄)] {ιwm : Name}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {fs : Buf Val (src.view.loc c)}
    {S : Finset (Idx (dst.view.loc c))} {f : Buf Val (dst.view.loc c)} {g : Tgt Val (dst.view.loc c)}
    {mark : Fin n → Finset (Idx (dst.view.loc c))} {j : ℕ}
    (ι : Ix) (N : ℕ) (hN : dst.view.amount sm = N) (hS : dst.view.set ⊆ S) (hj : j < n) (hmark : mark ⟨j, hj⟩ = dst.view.set)
    (hadm : dst.view.Admitted Val g (src.view.read Val fs) Finset.univ) :
    iprop(wmInv emb ιwm ∗ Reads (src.view.loc c) fs ∗ willBeTo emb (dst.view.loc c) S (restAt j) f g ∅
        ∗ Batch EC c sm ι N (Landed emb (dst.view.loc c) S f g mark) j 0)
      ⊢ iprop((iprop(Reads (src.view.loc c) fs ∗ willBeTo emb (dst.view.loc c) S (restAt (j + 1)) f g ∅
              ∗ Batch EC c sm ι N (Landed emb (dst.view.loc c) S f g mark) (j + 1) 0)
            -∗ wp frame (wpE defs 𝒱 c bd) Set.univ (k ⟨⟩) Q)
          -∗ wp frame (wpE defs 𝒱 c bd) Set.univ (.op (.enqueueDma src (.here dst) sm hsrc hdst hsem) k) Q) := by
  iintro ⟨#Hwm, Hr, Hd, HB⟩ Hk
  ihave Hr' := (reads_part (src.view.loc c) fs src.view.set) $$ Hr
  icases Hr' with ⟨⟨%q, Hs⟩, Hr⟩
  icases Hd with ⟨Hd, Hrest⟩
  unfold Batch
  icases HB with ⟨%γ, %γ₀, %κ, #Hinv, HI, H0, Hcred⟩
  ihave HI' := (show bigSep (pending j) (fun t => count EC (γ t) 0) ⊢ iprop(count EC (γ ⟨j, hj⟩) 0 ∗ bigSep (pending (j + 1)) (fun t => count EC (γ t) 0))
    from Entails.of_eq (bigSep_pending_step (fun t => count EC (γ t) 0) j hj)) $$ HI
  icases HI' with ⟨Ht, HI⟩
  iapply (wp_enqueueDma 𝒱 c bd Set.univ ι N hN) $$ [Hs Hd] [Ht]
  · isplitl [Hs]; · iexact Hs
    iapply (willBeTo_writeUpdate (emb := emb) (ιwm := ιwm) c hS hadm)
    isplitr; · iexact Hwm
    iexact Hd
  · iapply (batch_creditUpdate EC (D := Landed emb (dst.view.loc c) S f g mark) ⟨j, hj⟩ (show iprop(_ ∗ _) ⊢ _ by
      unfold Landed
      rw [hmark]
      iintro ⟨H, -⟩
      rw [Finset.empty_union]
      iexact H))
    isplitr; · iexact Hinv
    iexact Ht
  iintro Hcred'
  iapply Hk
  isplitl [Hr]; · iexact Hr
  isplitl [Hrest]; · iexact Hrest
  iexists γ, γ₀, κ
  isplitr; · iexact Hinv
  isplitl [HI]; · iexact HI
  isplitl [H0]; · iexact H0
  rw [Nat.sub_zero, Nat.sub_zero, Nat.succ_mul, ← tallyAt_add]
  icombine Hcred Hcred' as H
  iexact H

/-- What the copies from the `k`-th on brought back, beside what was left after the last, is what was left before the
    `k`-th, everything they wrote marked. -/
theorem collect_from {ℓ : Loc nD τ sig} {S : Finset (Idx ℓ)} {f : Buf Val ℓ} {g : Tgt Val ℓ} {mark : Fin n → Finset (Idx ℓ)}
    (d : ℕ) : ∀ k : ℕ, k + d = n →
    (iprop(bigSep (pending k) (Landed emb ℓ S f g mark) ∗ willBeTo emb ℓ S (restAt n) f g ∅) : sProp 𝕄)
      ⊢ iprop(∃ W, ⌜∀ t : Fin n, k ≤ t.val → mark t ⊆ W⌝ ∗ willBeTo emb ℓ S (restAt k) f g W) := by
  induction d with
  | zero =>
    intro k hk
    obtain rfl : k = n := by omega
    iintro ⟨-, H⟩
    iexists ∅
    isplitr; · ipureintro; intro t ht; exact absurd t.isLt (by omega)
    iexact H
  | succ d ih =>
    intro k hk
    rw [bigSep_pending_step _ k (by omega : k < n)]
    iintro ⟨⟨Hk, Hrest⟩, H⟩
    ihave H' := (ih (k + 1) (by omega)) $$ [Hrest H]
    · isplitl [Hrest] <;> iassumption
    icases H' with ⟨%W, %hW, H⟩
    unfold Landed
    icombine Hk H as H
    iexists (mark ⟨k, by omega⟩ ∪ W)
    isplitr
    · ipureintro; intro t ht
      rcases Nat.eq_or_lt_of_le ht with h | h
      · rw [show t = ⟨k, by omega⟩ from Fin.ext h.symm]
        exact Finset.subset_union_left
      · exact (hW t h).trans Finset.subset_union_right
    iexact H

/-- All the copies landed, together covering `S` with definite targets: `S` held outright at the targets. -/
theorem collect {ιwm : Name} {ℓ : Loc nD τ sig} {S : Finset (Idx ℓ)} {f g : Buf Val ℓ} {mark : Fin n → Finset (Idx ℓ)}
    (hcov : ∀ i ∈ S, ∃ t, i ∈ mark t) :
    (iprop(wmInv emb ιwm ∗ bigSep Finset.univ (Landed emb ℓ S f (fun i => some (g i)) mark)
        ∗ willBeTo emb ℓ S (restAt n) f (fun i => some (g i)) ∅) : sProp 𝕄)
      ⊢ |={Set.univ}=> (ℓ ↦[S]{fullShare} g) := by
  iintro ⟨#Hwm, HD, H⟩
  ihave H' := (collect_from (emb := emb) (mark := mark) n 0 (by omega)) $$ [HD H]
  · isplitl [HD]
    · rw [← bigSep_pending_zero]; iexact HD
    · iexact H
  icases H' with ⟨%W, %hW, H⟩
  imod (willBeTo_castOut_some (emb := emb) (ιwm := ιwm) (E := Set.univ) (Set.mem_univ _)) $$ [H] with H
  · isplitr; · iexact Hwm
    iexact H
  imodintro
  iapply (Entails.of_eq (pointsTo_congr (q := fullShare) fun i hi => ?_)) $$ H
  obtain ⟨t, ht⟩ := hcov i hi
  exact Finset.piecewise_eq_of_mem _ _ _ (hW t (Nat.zero_le _) ht)

end

/-! ## Gathering beside copies in flight -/

section

variable {nD : Nat} {τ : Topo} {sig : RefSig} {Ix : Type} [DecidableEq Ix] {F : FTy → Type} [FloatOps F] {Name : Type} [DecidableEq Name]
variable {U : Type} [URA U] {Lvl : Type} [Preorder Lvl] {Λ : Labels} {emb : UEmb (WmRA nD τ sig (Elt F)) U}

local notation "𝕄" => MT nD τ sig Ix (Elt F) Name U Lvl

variable {defs : Defs nD τ sig (Elt F) Λ} (𝒱 : Variants) (c : Thread nD τ) (bd : Option 𝒱.V)
variable {α : Type} {Q : α → sProp (MT nD τ sig Ix (Elt F) Name U Lvl)}

/-- A gather over a whole buffer whose elements `S` are held outright and whose other elements `S'` are in write mode:
    it reads some contents that are `f` on `S`. -/
theorem wp_gatherBeside {ιwm : Name} {s t : Shape} {e : EltTy} {base : Memref sig c.2.kind .vmem s e} {idxs : Fin s.rank → IVec t 32}
    {h : ∀ a x, (idxs a x).toNat < s.size a} {hl : base.view.Loads} {k : Vec F t e → Prog (TpuEff nD τ sig (Elt F) Λ c.2) α}
    {S S' : Finset (Idx (base.view.loc c))} {q : PosShare TreeShare} {f f' : Buf (Elt F) (base.view.loc c)}
    {g : Tgt (Elt F) (base.view.loc c)} {W : Finset (Idx (base.view.loc c))}
    (hdis : Disjoint S S') (hcov : S ∪ S' = Finset.univ) :
    iprop(wmInv emb ιwm ∗ (base.view.loc c ↦[S]{fullShare} f) ∗ willBeTo emb (base.view.loc c) S' q f' g W)
      ⊢ iprop((∀ cur, ⌜∀ i ∈ S, cur i = f i⌝ -∗ (base.view.loc c ↦[S]{fullShare} f)
              -∗ willBeTo emb (base.view.loc c) S' q f' g W
              -∗ wp frame (wpE defs 𝒱 c bd) Set.univ (k (loadIdx ((base.access (.whole s)).read (Elt F) cur) idxs h)) Q)
          -∗ wp frame (wpE defs 𝒱 c bd) Set.univ (SparseCore.vectorLoadIdx base idxs h hl >>= k) Q) := by
  classical
  iintro ⟨#Hwm, Hs, Hd⟩ Hk
  rw [SparseCore.vectorLoadIdx_bind]
  have hE : ιwm ∈ (Set.univ : Set Name) := Set.mem_univ _
  imod (willBeTo_acc hE) $$ [Hd] with ⟨%cur, %W', %hW, Hraw, %hcur, Hclose⟩
  · isplitr; · iexact Hwm
    iexact Hd
  imodintro
  ihave Hall := (pointsTo_join hdis) $$ [Hs Hraw]
  · isplitl [Hs] <;> iassumption
  rw [hcov]
  iapply (fp_load c (fun x _ => Finset.mem_univ x)) $$ Hall
  iintro Hall
  rw [← hcov]
  ihave Hall' := (pointsTo_union hdis).1 $$ Hall
  icases Hall' with ⟨Hs, Hraw⟩
  ispecialize Hclose $$ %(S'.piecewise cur f) %∅
    %⟨Finset.empty_subset _, fun i h => absurd h (Finset.notMem_empty i), fun i hi _ => Finset.piecewise_eq_of_mem _ _ _ hi⟩ Hraw
  imod Hclose with Htok
  imodintro
  rw [Finset.union_empty]
  have hf : ∀ i ∈ S, (S'.piecewise cur f) i = f i := fun i hi =>
    Finset.piecewise_eq_of_notMem _ _ _ (Finset.disjoint_left.1 hdis hi)
  iapply Hk $$ %(S'.piecewise cur f) %hf [Hs] Htok
  iapply (Entails.of_eq (pointsTo_congr (q := fullShare) hf)) $$ Hs

end

end Cert.Proof.Flight

end
-- ==== Proof.Words.lean ====
/-
  The kernel's integer words, on their ranges: the offsets of its slices, the checks it carries, the index vectors it
  gathers and scatters by.
-/
module

public import proofs.«01_k».proof.Proof.Gen.KernelIdeal.Skeleton

@[expose] public section

noncomputable section

namespace Cert.Proof

open Cert.KernelIdeal Cert.KernelIdeal.Gen
open Idealize.ShloMosaic Idealize.SL.Sem

/-! ## Loop variables -/

theorem t1_lt (t : Fin k0_t1_loop.trips) : t.val < 8 := t.isLt
theorem t2_lt (t : Fin k0_t2_loop.trips) : t.val < 64 := t.isLt
theorem t3_lt (t : Fin k0_t3_loop.trips) : t.val < 8 := t.isLt
theorem t4_lt (t : Fin k0_t4_loop.trips) : t.val < 8 := t.isLt

theorem iv_eq (k : ℕ) : Scf.iv 0#32 1#32 k = BitVec.ofNat 32 k := by
  unfold Scf.iv; simp

/-! ## Offsets -/

theorem off2_eq (t : Fin k0_t1_loop.trips) : k0_off2 t = ![0, t.val, 0, 0] := by
  revert t; decide
theorem off4_eq : k0_off4 = ![0] := by decide
theorem off5_eq (t : Fin k0_t2_loop.trips) (u : Fin k0_t3_loop.trips) : k0_off5 t u = ![(t.val + 1) % 2, u.val, 0, 0] := by
  revert t u; decide
theorem off7_eq (t : Fin k0_t2_loop.trips) : k0_off7 t = ![(t.val + 1) % 2] := by revert t; decide
theorem off8_eq (t : Fin k0_t2_loop.trips) : k0_off8 t = ![t.val % 2, 0, 0, 0] := by revert t; decide
theorem off9_eq (t : Fin k0_t2_loop.trips) : k0_off9 t = ![t.val % 2] := by revert t; decide
theorem cond1_iff (t : Fin k0_t2_loop.trips) : k0_cond1 t = 1#1 ↔ t.val + 1 < 64 := by revert t; decide

/-- The first row of the tile's part. -/
def base (i : grid0.Coords) : ℕ := ((i 1).val * 2 + (i 0).val) * 512

theorem base_le (i : grid0.Coords) : base i + 512 ≤ 16384 := by
  have h0 : (i 0).val < 2 := (i 0).isLt
  have h1 : (i 1).val < 16 := (i 1).isLt
  unfold base; omega

theorem base_word (a b : ℕ) (ha : a < 2) (hb : b < 16) :
    (Scalar.muli (Scalar.addi (Scalar.muli (BitVec.ofNat 32 b) 2#32) (BitVec.ofNat 32 a)) 512#32).toNat = (b * 2 + a) * 512 := by
  show ((BitVec.ofNat 32 b * 2#32 + BitVec.ofNat 32 a) * 512#32).toNat = _
  simp only [BitVec.toNat_mul, BitVec.toNat_add, BitVec.toNat_ofNat]
  omega

theorem off1_eq (i : grid0.Coords) : k0_off1 i = ![base i] := by
  unfold k0_off1 base
  rw [← base_word _ _ (i 0).isLt (i 1).isLt]
theorem off10_eq (i : grid0.Coords) : k0_off10 i = ![0, base i] := by
  unfold k0_off10 base
  rw [← base_word _ _ (i 0).isLt (i 1).isLt]

/-- The first column of the 128 wide block that holds column `r`. -/
def blk (r : ℕ) : ℕ := r / 128 * 128

theorem blk_word (v : BitVec 32) : (Scalar.muli (Scalar.shrui v 7#32) 128#32).toNat = blk v.toNat := by
  show ((v >>> (7#32).toNat) * 128#32).toNat = _
  have := v.isLt
  rw [BitVec.toNat_mul, BitVec.toNat_ushiftRight, Nat.shiftRight_eq_div_pow]
  show v.toNat / 128 * 128 % 4294967296 = v.toNat / 128 * 128
  omega

theorem off3_eq (v : BitVec 32) : k0_off3 v = ![0, blk v.toNat] := by
  unfold k0_off3; rw [← blk_word]
theorem off6_eq (v : BitVec 32) : k0_off6 v = ![0, blk v.toNat] := by
  unfold k0_off6; rw [← blk_word]

/-! ## Checks -/

variable {v : BitVec 32}

theorem blk_fits (hv : v.toNat < 1000000) : ∀ a, (![0, blk v.toNat] : Fin 2 → ℕ) a + S32x128.size a ≤ S32x1000064.size a := by
  intro a
  match a with
  | ⟨0, _⟩ => show 0 + 32 ≤ 32; omega
  | ⟨1, _⟩ => show blk v.toNat + 128 ≤ 1000064; unfold blk; omega

theorem chk2_of (hv : v.toNat < 1000000) : k0_chk2 v := by
  refine ⟨?_, ?_⟩
  · unfold k0_mult1; rw [blk_word]; exact Dvd.intro_left _ rfl
  · rw [off3_eq]; exact blk_fits hv

theorem chk4_of (t : Fin k0_t2_loop.trips) (hv : v.toNat < 1000000) : k0_chk4 t v := by
  refine ⟨fun _ => ?_, fun _ => ?_⟩
  · unfold k0_mult2; rw [blk_word]; exact Dvd.intro_left _ rfl
  · rw [off6_eq]; exact blk_fits hv

/-- An index vector whose every lane is `n`. -/
theorem chk1_of {n : ℕ} (hn : n < 512) : k0_chk1 (fun _ => BitVec.ofNat 32 n) := by
  intro a x
  match a with
  | ⟨0, _⟩ => show (BitVec.ofNat 32 n).toNat < 512; rw [BitVec.toNat_ofNat]; omega

/-- The words the three places index the row numbers by. -/
theorem fire0_word (t : Fin k0_t1_loop.trips) :
    (broadcast S16 (Scalar.addi 0#32 (Scf.iv 0#32 1#32 t.val)) : IVec S16 32) = fun _ => BitVec.ofNat 32 t.val := by
  rw [iv_eq]; funext _; exact BitVec.zero_add _

theorem fire_word (t : Fin k0_t2_loop.trips) (u : Fin k0_t3_loop.trips) :
    (broadcast S16 (Scalar.addi (Scalar.muli (Scalar.addi (Scf.iv 0#32 1#32 t.val) 1#32) 8#32) (Scf.iv 0#32 1#32 u.val)) : IVec S16 32)
      = fun _ => BitVec.ofNat 32 (8 * (t.val + 1) + u.val) := by
  rw [iv_eq, iv_eq]; funext _
  show (BitVec.ofNat 32 t.val + 1#32) * 8#32 + BitVec.ofNat 32 u.val = _
  apply BitVec.eq_of_toNat_eq
  simp only [BitVec.toNat_mul, BitVec.toNat_add, BitVec.toNat_ofNat]
  have := t2_lt t; have := t3_lt u; omega

theorem take_word (t : Fin k0_t2_loop.trips) (u : Fin k0_t4_loop.trips) :
    (broadcast S16 (Scalar.addi (Scalar.muli (Scf.iv 0#32 1#32 t.val) 8#32) (Scf.iv 0#32 1#32 u.val)) : IVec S16 32)
      = fun _ => BitVec.ofNat 32 (8 * t.val + u.val) := by
  rw [iv_eq, iv_eq]; funext _
  show BitVec.ofNat 32 t.val * 8#32 + BitVec.ofNat 32 u.val = _
  apply BitVec.eq_of_toNat_eq
  simp only [BitVec.toNat_mul, BitVec.toNat_add, BitVec.toNat_ofNat]
  have := t2_lt t; have := t4_lt u; omega

theorem slot_word (t : Fin k0_t2_loop.trips) :
    (broadcast S16 (Scalar.remsi (Scf.iv 0#32 1#32 t.val) 2#32) : IVec S16 32) = fun _ => BitVec.ofNat 32 (t.val % 2) := by
  funext _
  show Scalar.remsi (Scf.iv 0#32 1#32 t.val) 2#32 = _
  revert t; decide

theorem win_word (u : Fin k0_t4_loop.trips) : (broadcast S16 (Scf.iv 0#32 1#32 u.val) : IVec S16 32) = fun _ => BitVec.ofNat 32 u.val := by
  rw [iv_eq]; rfl

theorem low_word {F : FTy → Type} [FloatOps F] (v : Vec F S16 .i32) (x : S16.Idx) : (k0_pay3 (F := F) v x).toNat = (v x : BitVec 32).toNat % 128 := by
  show ((v x : BitVec 32) &&& 127#32).toNat = _
  rw [BitVec.toNat_and]
  exact Nat.and_two_pow_sub_one_eq_mod _ 7

theorem lane0_word (x : S16.Idx) : (k0_pay4 x).toNat = (x 0).val := by
  revert x; decide
theorem lane1_word (x : S16.Idx) : (k0_pay5 x).toNat = (x 0).val + 16 := by
  revert x; decide

end Cert.Proof

end
-- ==== Proof.Places.lean ====
/-
  Where the copies land: the double buffer's two slots and their eight windows, the block of the table a row number
  lies in, and what a window holds once its copy has landed.
-/
module

public import proofs.«01_k».proof.Proof.Words

@[expose] public section

noncomputable section

namespace Cert.Proof

open Cert.KernelIdeal Cert.KernelIdeal.Gen
open Idealize.ShloMosaic Idealize.SL.Sem

instance : Cert.KernelIdeal.Facts := Cert.KernelIdeal.Gen.facts

variable {F : FTy → Type} [FloatOps F]

/-! ## Indices and contents -/

/-- The `n`-th row number of the tile. -/
def numAt (n : ℕ) : S512.Idx := fun a => match a with
  | ⟨0, _⟩ => (⟨n % 512, Nat.mod_lt _ (by decide)⟩ : Fin 512)

/-- Column `r` of row `c` of the table the tiles read. -/
def cellAt (c : Fin 32) (r : ℕ) : S32x1000064.Idx := fun a => match a with
  | ⟨0, _⟩ => c
  | ⟨1, _⟩ => (⟨r % 1000064, Nat.mod_lt _ (by decide)⟩ : Fin 1000064)

/-- What the tile's part of the result holds: at row `c` and column `p`, the table's entry of row `c` in the column the
    tile's `p`-th row number names. -/
def panelOf (T : S32x1000064.Idx → F .f32) (X : S512.Idx → BitVec 32) : S32x512.Idx → F .f32 :=
  fun j => T (cellAt (j 0) (X (numAt (j 1).val)).toNat)

/-- What a slot holds once the copies of wave `w` have landed: in its window `k`, the table's block that holds the column the row number `8 w + k` names. -/
def waveOf (T : S32x1000064.Idx → F .f32) (X : S512.Idx → BitVec 32) (w : ℕ) : S2x8x32x128.Idx → F .f32 :=
  fun j => T (cellAt (j 2) (blk (X (numAt (8 * w + (j 1).val))).toNat + (j 3).val))

/-- A slot of the double buffer, -/
def slot (p : ℕ) : Finset S2x8x32x128.Idx := Finset.univ.filter fun j => (j 0).val = p
/-- and one of its windows. -/
def win (p : ℕ) (k : Fin 8) : Finset S2x8x32x128.Idx := Finset.univ.filter fun j => (j 0).val = p ∧ (j 1).val = k.val

theorem mem_slot {p : ℕ} {j : S2x8x32x128.Idx} : j ∈ slot p ↔ (j 0).val = p := by simp [slot]
theorem mem_win {p : ℕ} {k : Fin 8} {j : S2x8x32x128.Idx} : j ∈ win p k ↔ (j 0).val = p ∧ (j 1).val = k.val := by simp [win]

theorem win_sub (p : ℕ) (k : Fin 8) : win p k ⊆ slot p := fun _ hj => mem_slot.2 (mem_win.1 hj).1
theorem win_cover (p : ℕ) : ∀ j ∈ slot p, ∃ k, j ∈ win p k := fun j hj => ⟨j 1, mem_win.2 ⟨mem_slot.1 hj, rfl⟩⟩

theorem slot_disjoint {p q : ℕ} (h : p ≠ q) : Disjoint (slot p) (slot q) :=
  Finset.disjoint_left.2 fun _ hp hq => h ((mem_slot.1 hp).symm.trans (mem_slot.1 hq))
theorem slot_cover {p q : ℕ} (hp : p < 2) (hq : q < 2) (h : p ≠ q) : slot p ∪ slot q = Finset.univ := by
  ext j
  have : (j 0).val < 2 := (j 0).isLt
  simp only [Finset.mem_union, mem_slot, Finset.mem_univ, iff_true]
  omega

/-! ## The copies -/

/-- A window, as a copy's destination, -/
abbrev flightDst (off : Fin 4 → ℕ) (h : ∀ a, off a + S1x1x32x128.size a ≤ S2x8x32x128.size a) :
    Memref sig .scVector .vmem S32x128 .f32 :=
  ((Memref.whole cc0_scratch1 : Memref sig .scVector .vmem S2x8x32x128 .f32).slice
    (Rect.unit (s := S2x8x32x128) off S1x1x32x128.size h) (fun _ => rfl)).squeeze S32x128 squeezes_S1x1x32x128_S32x128
/-- and a block of the table, as its source. -/
abbrev flightSrc (off : Fin 2 → ℕ) (h : ∀ a, off a + S32x128.size a ≤ S32x1000064.size a) :
    Memref sig .scVector .hbm S32x128 .f32 :=
  (Memref.whole main_v1_scv : Memref sig .scVector .hbm S32x1000064 .f32).slice
    (Rect.unit (s := S32x1000064) off S32x128.size h) (fun _ => rfl)
/-- A slot's semaphore. -/
abbrev flightSem (off : Fin 1 → ℕ) (h : ∀ a, off a + S1.size a ≤ S2.size a) : DmaSem sig :=
  ((cc0_scratch3.slice (Rect.unit (s := S2) off S1.size h)).squeeze S_ squeezes_S1_S_).sem

/-- The cell of slot `p`'s semaphore. -/
def cellOf (p : ℕ) : DmaSem sig := if p = 0 then (0 : Fin 4) else (1 : Fin 4)

theorem flightSem_eq {off : Fin 1 → ℕ} {h} {p : ℕ} (e : off = ![p]) : flightSem off h = cellOf p := by
  subst e
  have hp : p + 1 ≤ 2 := h 0
  apply Fin.ext
  have hv : (flightSem ![p] h).val = p := by
    let y : S1.Idx := Shape.reshapeEquiv squeezes_S1_S_.numel_eq (fun i => i.elim0)
    have hy : (y 0).val = 0 := Nat.lt_one_iff.1 (y 0).isLt
    show 0 + (S2.rowMajor ((Rect.unit (s := S2) ![p] S1.size h).emb y)).val = p
    rw [Shape.rowMajor_val_one]
    show 0 + (p + 1 * (y 0).val) = p
    omega
  rw [hv]
  unfold cellOf
  split
  · subst p; rfl
  · show p = 1; omega

/-- A window's elements. -/
theorem flightDst_set {off : Fin 4 → ℕ} {h} {p : ℕ} {k : Fin 8} (e : off = ![p, k.val, 0, 0]) : (flightDst off h).view.set = win p k := by
  subst e
  refine ((View.set_reshape _ _).trans (View.set_slice_whole cc0_scratch1 (Rect.unit (s := S2x8x32x128) _ S1x1x32x128.size h))).trans ?_
  ext j
  rw [Rect.mem_set_unit, mem_win]
  have h2 : (j 2).val < 32 := (j 2).isLt
  have h3 : (j 3).val < 128 := (j 3).isLt
  constructor
  · intro hj
    have h0 : p ≤ (j 0).val ∧ (j 0).val < p + 1 := hj 0
    have h1 : k.val ≤ (j 1).val ∧ (j 1).val < k.val + 1 := hj 1
    omega
  · rintro ⟨h0, h1⟩ a
    match a with
    | ⟨0, _⟩ => show p ≤ (j 0).val ∧ (j 0).val < p + 1; omega
    | ⟨1, _⟩ => show k.val ≤ (j 1).val ∧ (j 1).val < k.val + 1; omega
    | ⟨2, _⟩ => show 0 ≤ (j 2).val ∧ (j 2).val < 0 + 32; omega
    | ⟨3, _⟩ => show 0 ≤ (j 3).val ∧ (j 3).val < 0 + 128; omega

/-- Element `x` of a window. -/
theorem flightDst_emb {off : Fin 4 → ℕ} {h} {p : ℕ} {k : Fin 8} (e : off = ![p, k.val, 0, 0]) (x : S32x128.Idx) :
    ((flightDst off h).view.emb x 0).val = p ∧ ((flightDst off h).view.emb x 1).val = k.val
      ∧ ((flightDst off h).view.emb x 2).val = (x 0).val ∧ ((flightDst off h).view.emb x 3).val = (x 1).val := by
  subst e
  have hr : Shape.reshapeEquiv (squeezes_S1x1x32x128_S32x128).numel_eq x
      = (fun a => match a with
          | ⟨0, _⟩ => (0 : Fin 1)
          | ⟨1, _⟩ => (0 : Fin 1)
          | ⟨2, _⟩ => x 0
          | ⟨3, _⟩ => x 1 : S1x1x32x128.Idx) := by
    apply Shape.reshapeEquiv_eq_of_rowMajor
    rw [Shape.rowMajor_val_four, Shape.rowMajor_val_two]
    show ((0 * 1 + 0) * 32 + (x 0).val) * 128 + (x 1).val = (x 0).val * 128 + (x 1).val
    omega
  have he : ∀ a, ((flightDst ![p, k.val, 0, 0] h).view.emb x a).val
      = (![p, k.val, 0, 0] : Fin 4 → ℕ) a + 1 * (Shape.reshapeEquiv (squeezes_S1x1x32x128_S32x128).numel_eq x a).val := fun a => rfl
  rw [he, he, he, he, hr]
  refine ⟨?_, ?_, ?_, ?_⟩
  · show p + 1 * 0 = p; omega
  · show k.val + 1 * 0 = k.val; omega
  · show 0 + 1 * (x 0).val = (x 0).val; omega
  · show 0 + 1 * (x 1).val = (x 1).val; omega

/-- A copy of wave `w` brings its window what the wave's slot is to hold there. -/
theorem flight_admitted {offd : Fin 4 → ℕ} {hd} {offs : Fin 2 → ℕ} {hs} {p : ℕ} {k : Fin 8} {w : ℕ}
    (ed : offd = ![p, k.val, 0, 0]) {T : S32x1000064.Idx → F .f32} {X : S512.Idx → BitVec 32}
    (hw : 8 * w + k.val < 512) (hX : (X (numAt (8 * w + k.val))).toNat < 1000000)
    (es : offs = ![0, blk (X (numAt (8 * w + k.val))).toNat]) :
    (flightDst offd hd).view.Admitted (Elt F) (fun i => some (waveOf T X w i)) ((flightSrc offs hs).view.read (Elt F) T) Finset.univ := by
  rw [View.admitted_some_iff]
  intro x _
  show T ((flightSrc offs hs).view.emb x) = waveOf T X w ((flightDst offd hd).view.emb x)
  obtain ⟨-, h1, h2, h3⟩ := flightDst_emb (h := hd) ed x
  unfold waveOf
  rw [h1, h3]
  congr 1
  subst es
  have hx0 : (x 0).val < 32 := (x 0).isLt
  have hx1 : (x 1).val < 128 := (x 1).isLt
  funext a
  apply Fin.ext
  match a with
  | ⟨0, _⟩ =>
    show 0 + 1 * (x 0).val = ((flightDst offd hd).view.emb x 2).val
    rw [h2]; omega
  | ⟨1, _⟩ =>
    show blk (X (numAt (8 * w + k.val))).toNat + 1 * (x 1).val = (blk (X (numAt (8 * w + k.val))).toNat + (x 1).val) % 1000064
    unfold blk; omega

end Cert.Proof

end
-- ==== Proof.Takes.lean ====
/-
  What the kernel's gathers read and its scatters leave: a row number, a window's column, the panel's column.
-/
module

public import proofs.«01_k».proof.Proof.Places

@[expose] public section

noncomputable section

namespace Cert.Proof

open Cert.KernelIdeal Cert.KernelIdeal.Gen
open Idealize.ShloMosaic Idealize.SL.Sem

variable {F : FTy → Type} [FloatOps F]

/-! ## A scatter whose lanes agree with a function of the place -/

/-- If every lane carries what `G` holds at the place it is stored to, then a place that held `G`'s value, or that a lane
    names, holds `G`'s value after the scatter. -/
theorem storeIdx_of {s : Shape} {e : EltTy} {d : Fin 1 → ℕ} (G : Vec F s e) {f : Vec F s e} {idxs : Fin s.rank → IVec ⟨1, d⟩ 32}
    {v : Vec F ⟨1, d⟩ e} {h : ∀ a x, (idxs a x).toNat < s.size a} (hv : ∀ x, v x = G (idxAt idxs h x)) {j : s.Idx}
    (hj : f j = G j ∨ ∃ k : Fin (d 0), j = idxAt idxs h (Shape.ofLane k)) :
    storeIdx f idxs v (fun _ => 1#1) false h j = G j := by
  have key : ∀ (step : Vec F s e → Fin (d 0) → Vec F s e)
      (_ : ∀ g k j, step g k j = if (∀ a, (j a).val = (idxAt idxs h (Shape.ofLane k) a).val) then v (Shape.ofLane k) else g j)
      (l : List (Fin (d 0))) (g : Vec F s e), (g j = G j ∨ ∃ k ∈ l, j = idxAt idxs h (Shape.ofLane k)) →
      l.foldl step g j = G j := by
    intro step hstep l
    induction l with
    | nil =>
      rintro g (hg | ⟨k, hk, -⟩)
      · exact hg
      · exact absurd hk List.not_mem_nil
    | cons k l ih =>
      intro g hg
      rw [List.foldl_cons]
      refine ih _ ?_
      by_cases hk : ∀ a, (j a).val = (idxAt idxs h (Shape.ofLane k) a).val
      · left
        have hjk : j = idxAt idxs h (Shape.ofLane k) := funext fun a => Fin.ext (hk a)
        rw [hstep, if_pos hk, hv, ← hjk]
      · rcases hg with hg | ⟨k', hk', e'⟩
        · left
          rw [hstep, if_neg hk]
          exact hg
        · rcases List.mem_cons.1 hk' with rfl | hk''
          · exact absurd (fun a => by rw [e']) hk
          · exact Or.inr ⟨k', hk'', e'⟩
  unfold storeIdx
  refine key _ (fun g k j => ?_) _ _ ?_
  · have h1 : (1#1 : BitVec 1) = 1 := rfl
    simp only [h1, if_true, Bool.false_eq_true, if_false]
  rcases hj with hj | ⟨k, hk⟩
  · exact Or.inl hj
  · exact Or.inr ⟨k, List.mem_finRange k, hk⟩

/-! ## Row numbers -/

theorem numAt_gather {X : Vec F S512 .i32} {n : ℕ} (hn : n < 512)
    {h : ∀ a x, ((![fun _ => BitVec.ofNat 32 n] : Fin 1 → IVec S16 32) a x).toNat < S512.size a} (x : S16.Idx) :
    loadIdx (F := F) X (![fun _ => BitVec.ofNat 32 n] : Fin 1 → IVec S16 32) h x = X (numAt n) := by
  show X (idxAt (s := S512) _ h x) = _
  congr 1
  funext a
  apply Fin.ext
  match a with
  | ⟨0, _⟩ =>
    show (BitVec.ofNat 32 n).toNat = n % 512
    rw [BitVec.toNat_ofNat]; omega

/-- The first lane. -/
def lane0 : S16.Idx := fun a => match a with
  | ⟨0, _⟩ => (0 : Fin 16)

theorem first_lane1 (v : Vec F S16 .i32) : extractAt ![0] (k0_pay1 (F := F) v) inpos_S1_p0 = v lane0 := by
  show v _ = v _
  congr 1
  funext a
  match a with
  | ⟨0, _⟩ => rfl

theorem first_lane2 (v : Vec F S16 .i32) : extractAt ![0] (k0_pay2 (F := F) v) inpos_S1_p0 = v lane0 := by
  show v _ = v _
  congr 1
  funext a
  match a with
  | ⟨0, _⟩ => rfl

/-! ## A column out of its window and into the panel -/

/-- Half of a column's lanes: lane `x` is row `x + o`. -/
structure Lanes (L : IVec S16 32) (o : ℕ) : Prop where
  row : ∀ x, (L x).toNat = (x 0).val + o
  le : o ≤ 16

theorem lanes0 : Lanes k0_pay4 0 := ⟨lane0_word, by omega⟩
theorem lanes1 : Lanes k0_pay5 16 := ⟨lane1_word, le_rfl⟩

section

variable {L low : IVec S16 32} {o : ℕ} (hL : Lanes L o) {p u n : ℕ} (hp : p < 2) (hu : u < 8) (hn : n < 512)
include hL

theorem Lanes.lt (x : S16.Idx) : (L x).toNat < 32 := by
  have := hL.row x
  have := hL.le
  have : (x 0).val < 16 := (x 0).isLt
  omega

theorem take_chk (hp : p < 2) (hu : u < 8) (hn : n < 512) (hlow : ∀ x, (low x).toNat < 128) :
    (∀ a x, ((![fun _ => BitVec.ofNat 32 p, fun _ => BitVec.ofNat 32 u, L, low] : Fin 4 → IVec S16 32) a x).toNat < S2x8x32x128.size a) ∧
      (∀ a x, ((![L, fun _ => BitVec.ofNat 32 n] : Fin 2 → IVec S16 32) a x).toNat < S32x512.size a) := by
  refine ⟨fun a x => ?_, fun a x => ?_⟩
  · match a with
    | ⟨0, _⟩ => show (BitVec.ofNat 32 p).toNat < 2; rw [BitVec.toNat_ofNat]; omega
    | ⟨1, _⟩ => show (BitVec.ofNat 32 u).toNat < 8; rw [BitVec.toNat_ofNat]; omega
    | ⟨2, _⟩ => exact hL.lt x
    | ⟨3, _⟩ => exact hlow x
  · match a with
    | ⟨0, _⟩ => exact hL.lt x
    | ⟨1, _⟩ => show (BitVec.ofNat 32 n).toNat < 512; rw [BitVec.toNat_ofNat]; omega

/-- Half a column of wave `w`, gathered out of its window `u` and scattered into the panel. -/
theorem take_half {w : ℕ} (hu : u < 8) (hw : 8 * w + u < 512) {T : S32x1000064.Idx → F .f32} {X : S512.Idx → BitVec 32}
    (hX : (X (numAt (8 * w + u))).toNat < 1000000)
    (hlow : ∀ x, (low x).toNat = (X (numAt (8 * w + u))).toNat % 128)
    {cur : Vec F S2x8x32x128 .f32} (hcur : ∀ i ∈ slot (w % 2), cur i = waveOf T X w i) {f : Vec F S32x512 .f32}
    {h4 : ∀ a x, ((![fun _ => BitVec.ofNat 32 (w % 2), fun _ => BitVec.ofNat 32 u, L, low] : Fin 4 → IVec S16 32) a x).toNat < S2x8x32x128.size a}
    {h5 : ∀ a x, ((![L, fun _ => BitVec.ofNat 32 (8 * w + u)] : Fin 2 → IVec S16 32) a x).toNat < S32x512.size a}
    {j : S32x512.Idx} (hj : f j = panelOf T X j ∨ ((j 1).val = 8 * w + u ∧ o ≤ (j 0).val ∧ (j 0).val < o + 16)) :
    storeIdx (F := F) (d := ![16]) f (![L, fun _ => BitVec.ofNat 32 (8 * w + u)] : Fin 2 → IVec S16 32)
        (loadIdx (F := F) cur (![fun _ => BitVec.ofNat 32 (w % 2), fun _ => BitVec.ofNat 32 u, L, low] : Fin 4 → IVec S16 32) h4)
        (fun _ => 1#1) false h5 j = panelOf T X j := by
  have hw0 : (BitVec.ofNat 32 (w % 2)).toNat = w % 2 := by rw [BitVec.toNat_ofNat]; omega
  have hw1 : (BitVec.ofNat 32 u).toNat = u := by rw [BitVec.toNat_ofNat]; omega
  have hw2 : (BitVec.ofNat 32 (8 * w + u)).toNat = 8 * w + u := by rw [BitVec.toNat_ofNat]; omega
  refine storeIdx_of (F := F) (s := S32x512) (e := .f32) (d := ![16]) (panelOf T X) (fun x => ?_) ?_
  · show cur (idxAt (s := S2x8x32x128) _ h4 x) = _
    rw [hcur _ (mem_slot.2 hw0)]
    unfold waveOf panelOf
    have e1 : (idxAt (s := S2x8x32x128) _ h4 x 1).val = u := hw1
    have e3 : (idxAt (s := S2x8x32x128) _ h4 x 3).val = (X (numAt (8 * w + u))).toNat % 128 := hlow x
    have f1 : (idxAt (s := S32x512) _ h5 x 1).val = 8 * w + u := hw2
    rw [e1, e3, f1]
    congr 1
    funext a
    apply Fin.ext
    match a with
    | ⟨0, _⟩ => rfl
    | ⟨1, _⟩ =>
      show (blk (X (numAt (8 * w + u))).toNat + (X (numAt (8 * w + u))).toNat % 128) % 1000064 = (X (numAt (8 * w + u))).toNat % 1000064
      unfold blk; omega
  · rcases hj with hj | ⟨h1, h0, h0'⟩
    · exact Or.inl hj
    · refine Or.inr ⟨(⟨(j 0).val - o, by omega⟩ : Fin 16), ?_⟩
      funext a
      apply Fin.ext
      match a with
      | ⟨0, _⟩ =>
        show (j 0).val = (L _).toNat
        rw [hL.row]
        show (j 0).val = (j 0).val - o + o
        omega
      | ⟨1, _⟩ => exact h1.trans hw2.symm

end

end Cert.Proof

end
-- ==== Proof.Setup.lean ====
/-
  The program as the launch theorem sees it, the resource algebra (the handshakes' rounds, the write mode of the copies
  in flight, the transfers' counters), and a tile's thread and buffers.
-/
module

public import proofs.«01_k».proof.Proof.Flight
public import proofs.«01_k».proof.Proof.Takes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Proof.Flight

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UW (F : FTy → Type) : Type := WmRA nD τ sig (Elt F)
abbrev UU (F : FTy → Type) : Type := UH × (UW F × Counters)

/-- The handshakes', -/
abbrev EH : Emb UH (MT nD τ sig (HIx 1) (Elt F) ℕ (UU F) ℕ) := embL
/-- the write mode's, -/
abbrev EW : UEmb (UW F) (UU F) := UEmb.inl.trans UEmb.inr
/-- and the transfers'. -/
abbrev EC : UEmb Counters (MT nD τ sig (HIx 1) (Elt F) ℕ (UU F) ℕ) := countersEmb

local notation "𝕄" => MT nD τ sig (HIx 1) (Elt F) ℕ (UU F) ℕ

/-! ## A tile's thread and its buffers -/

section Tile

variable (d : Dev nD) (i : grid0.Coords)

abbrev cV (i : grid0.Coords) : Fin τ.nSC := (i 0).castLE hcore0
abbrev jV (i : grid0.Coords) : Fin τ.nSub := (i 1).castLE hsub0
/-- The thread of the tile at `i`. -/
abbrev tile (d : Dev nD) (i : grid0.Coords) : Thread nD τ := V d (cV i) (jV i)

abbrev numsM : Memref sig .scVector .hbm S16384 .i32 := Memref.whole main_arg0_scv
abbrev tableM : Memref sig .scVector .hbm S32x1000064 .f32 := Memref.whole main_v1_scv
abbrev outM : Memref sig .scVector .hbm S32x16384 .f32 := Memref.whole main_v2_scv
abbrev listM : Memref sig .scVector .vmem S512 .i32 := Memref.whole cc0_scratch0
abbrev slotsM : Memref sig .scVector .vmem S2x8x32x128 .f32 := Memref.whole cc0_scratch1
abbrev panelM : Memref sig .scVector .vmem S32x512 .f32 := Memref.whole cc0_scratch2

/-- The row numbers, the table as the tiles read it and the result, -/
abbrev numsLoc : Loc nD τ sig := (SparseCore.T d).loc main_arg0
abbrev tableLoc : Loc nD τ sig := (SparseCore.T d).loc main_v1
abbrev outLoc : Loc nD τ sig := (SparseCore.T d).loc main_v2
/-- the tile's row numbers, its double buffer and its part of the result. -/
abbrev listLoc : Loc nD τ sig := (tile d i).loc cc0_scratch0
abbrev slotsLoc : Loc nD τ sig := (tile d i).loc cc0_scratch1
abbrev panelLoc : Loc nD τ sig := (tile d i).loc cc0_scratch2

/-- The cells of the two slots' semaphores. -/
abbrev slotCell (p : ℕ) : SemLoc sig := .dma (cellOf p)

/-- What one copy credits its semaphore. -/
abbrev blockCredit : ℕ := 131072

theorem flight_credit (off : Fin 4 → ℕ) (h) (sm : DmaSem sig) : (flightDst off h).view.amount (.dma sm) = blockCredit := by
  show S32x128.numel * 32 = 131072
  decide

/-- A slot, as the wait for its eight copies names it. -/
abbrev waitDst (off : Fin 4 → ℕ) (h : ∀ a, off a + S1x8x32x128.size a ≤ S2x8x32x128.size a) :
    Memref sig .scVector .vmem S8x32x128 .f32 :=
  ((slotsM).slice (Rect.unit (s := S2x8x32x128) off S1x8x32x128.size h) (fun _ => rfl)).squeeze S8x32x128 squeezes_S1x8x32x128_S8x32x128

theorem wait_credit (off : Fin 4 → ℕ) (h) : (waitDst off h).view.dmaCredit = 1048576 := by
  show S8x32x128.numel * 32 = 1048576
  decide

end Tile

end Cert.Proof

end
-- ==== Proof.Waves.lean ====
/-
  One wave of the kernel's copies: their issue, and what is held while they are in flight.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers
open Cert.Proof.Flight

variable {F : FTy → Type} [FloatOps F]

local notation "𝕄" => MT nD τ sig (HIx 1) (Elt F) ℕ (UU F) ℕ

variable (d : Dev nD) (i : grid0.Coords) (ιwm : ℕ)
variable (Tb : S32x1000064.Idx → F .f32) (X : S512.Idx → BitVec 32)

/-! ## What is held while a wave is in flight -/

/-- Wave `w`'s first `k` copies are in flight, into its slot, which held `f`. -/
def Flying (w k : ℕ) (f : S2x8x32x128.Idx → F .f32) : sProp 𝕄 :=
  iprop(willBeTo EW (slotsLoc d i) (slot (w % 2)) (restAt k) f (fun j => some (waveOf Tb X w j)) ∅
    ∗ Batch EC (tile d i) (slotCell (w % 2)) (none : HIx 1) blockCredit
        (Landed (n := 8) EW (slotsLoc d i) (slot (w % 2)) f (fun j => some (waveOf Tb X w j)) (win (w % 2))) k 0)

/-- The issue of wave `w`, after `k` copies: the write mode's invariant, a share of the table, the tile's row numbers. -/
def Firing (w k : ℕ) : sProp 𝕄 :=
  iprop(wmInv EW ιwm ∗ Reads (tableLoc d) Tb ∗ (listLoc d i ↦[Finset.univ]{fullShare} X) ∗ ∃ f, Flying d i Tb X w k f)

/-- Slot `p` at rest: its semaphore at zero, its elements held. -/
def Resting (p : ℕ) : sProp 𝕄 :=
  iprop(semVal ((tile d i, slotCell p) : GSem nD τ sig) 0 ∗ ∃ f : S2x8x32x128.Idx → F .f32, slotsLoc d i ↦[slot p]{fullShare} f)

/-- A slot at rest is made ready for a wave: its elements go into write mode, a batch of eight copies is opened. -/
theorem ready (w : ℕ) :
    iprop(wmInv EW ιwm ∗ Resting d i (w % 2)) ⊢ |={Set.univ}=> (iprop(∃ f, Flying d i Tb X w 0 f) : sProp 𝕄) := by
  unfold Resting
  iintro ⟨#Hwm, Hsem, %f, Hs⟩
  imod (pointsTo_castIn (emb := EW) (ιwm := ιwm) (ℓ := slotsLoc d i) (fun j => some (waveOf Tb X w j)) (E := Set.univ) (Set.mem_univ _)) $$ [Hs] with Hs
  · isplitr; · iexact Hwm
    iexact Hs
  imod (batch_alloc' EC (tile d i) (none : HIx 1) blockCredit
    (Landed (n := 8) EW (slotsLoc d i) (slot (w % 2)) f (fun j => some (waveOf Tb X w j)) (win (w % 2))) (E := Set.univ)) $$ Hsem with HB
  imodintro
  iexists f
  unfold Flying
  isplitl [Hs]; · iexact Hs
  iexact HB

/-- The issue lends the tile's row numbers. -/
theorem firing_list (w k : ℕ) :
    Firing d i ιwm Tb X w k ⊢ iprop((listLoc d i ↦[Finset.univ]{fullShare} X)
      ∗ ((listLoc d i ↦[Finset.univ]{fullShare} X) -∗ Firing d i ιwm Tb X w k) : sProp 𝕄) := by
  unfold Firing
  iintro ⟨#Hwm, Hr, Hl, Hf⟩
  isplitl [Hl]; · iexact Hl
  iintro Hl
  isplitr; · iexact Hwm
  isplitl [Hr]; · iexact Hr
  isplitl [Hl]; · iexact Hl
  iexact Hf

/-- The next copy of wave `w`. -/
theorem wp_send {w k : ℕ} (hw : w < 64) (hk : k < 8) (hX : ∀ j, (X j).toNat < 1000000)
    {offd : Fin 4 → ℕ} {hd} (ed : offd = ![w % 2, k, 0, 0])
    {offs : Fin 2 → ℕ} {hs} (es : offs = ![0, blk (X (numAt (8 * w + k))).toNat])
    {sm : DmaSem sig} (em : sm = cellOf (w % 2))
    {hsrc : (flightSrc offs hs).view.WordExact} {hdst : (flightDst offd hd).view.WordExact}
    {hsem : DmaTarget.Typed (nD := nD) (τ := τ) (p := (tile d i).2) .hbm (.dma sm) (.here (flightDst offd hd))}
    {α : Type} {kk : PUnit → Prog (TpuEff nD τ sig (Elt F) Λ₀ (tile d i).2) α} {Q : α → sProp 𝕄} :
    Firing d i ιwm Tb X w k
      ⊢ iprop((Firing d i ιwm Tb X w (k + 1) -∗ wp frame (wpE (defs₀ (F := F)) 𝒱₀ (tile d i) none) Set.univ (kk ⟨⟩) Q)
        -∗ wp frame (wpE (defs₀ (F := F)) 𝒱₀ (tile d i) none) Set.univ
          (.op (.enqueueDma (flightSrc offs hs) (.here (flightDst offd hd)) (.dma sm) hsrc hdst hsem) kk) Q) := by
  subst em
  have hset : (flightDst offd hd).view.set = win (w % 2) ⟨k, hk⟩ := flightDst_set (k := ⟨k, hk⟩) ed
  unfold Firing Flying
  iintro ⟨#Hwm, Hr, Hl, %f, Hd, HB⟩ Hk
  iapply (wp_issue (emb := EW) (ιwm := ιwm) EC 𝒱₀ (tile d i) none (src := flightSrc offs hs) (dst := flightDst offd hd)
    (fs := Tb) (S := slot (w % 2)) (f := f) (g := fun j => some (waveOf Tb X w j)) (mark := win (w % 2)) (j := k)
    (none : HIx 1) blockCredit (flight_credit offd hd _) (hset ▸ win_sub _ _) hk hset.symm
    (flight_admitted (k := ⟨k, hk⟩) ed (by show 8 * w + k < 512; omega) (hX _) es)) $$ [Hr Hd HB]
  · isplitr; · iexact Hwm
    isplitl [Hr]; · iexact Hr
    isplitl [Hd]; · iexact Hd
    iexact HB
  iintro ⟨Hr, Hd, HB⟩
  iapply Hk
  isplitr; · iexact Hwm
  isplitl [Hr]; · iexact Hr
  isplitl [Hl]; · iexact Hl
  iexists f
  isplitl [Hd]; · iexact Hd
  iexact HB

/-- A row number is fetched: every lane of the gather is the tile's `n`-th. -/
theorem wp_number {n : ℕ} (hn : n < 512) {v : IVec S16 32} (hv : v = fun _ => BitVec.ofNat 32 n)
    {h : ∀ a x, ((![v] : Fin 1 → IVec S16 32) a x).toNat < S512.size a} {hl : (listM).view.Loads}
    {α : Type} {kk : Vec F S16 .i32 → Prog (TpuEff nD τ sig (Elt F) Λ₀ (tile d i).2) α} {Q : α → sProp 𝕄} :
    (listLoc d i ↦[Finset.univ]{fullShare} X)
      ⊢ iprop(((listLoc d i ↦[Finset.univ]{fullShare} X) -∗ ∀ r : Vec F S16 .i32, ⌜∀ x, r x = X (numAt n)⌝
            -∗ wp frame (wpE (defs₀ (F := F)) 𝒱₀ (tile d i) none) Set.univ (kk r) Q)
        -∗ wp frame (wpE (defs₀ (F := F)) 𝒱₀ (tile d i) none) Set.univ
          (SparseCore.vectorLoadIdx (F := F) (Λ := Λ₀) (t := S16) listM ![v] h hl >>= kk) Q) := by
  subst hv
  iintro Hl Hk
  iapply (SparseCore.wp_vectorLoadIdx 𝒱₀ (tile d i) none Set.univ (base := listM) (hl := hl) (S := Finset.univ) (Finset.subset_univ _)) $$ Hl
  iintro Hl
  have hr : ∀ x, loadIdx (F := F) (((listM).access (.whole S512)).read (Elt F) X) (![fun _ => BitVec.ofNat 32 n] : Fin 1 → IVec S16 32) h x
      = X (numAt n) := fun x => by
    rw [show ((listM).access (.whole S512)).read (Elt F) X = X from Memref.read_access_whole _ _ _]
    exact numAt_gather hn x
  iapply Hk $$ Hl %_ %hr

/-! ## The two loops that issue -/

/-- A trip of the loop that issues the first wave, -/
abbrev fireFirst : Fin k0_t1_loop.trips → BitVec 32 → Prog (TpuEff nD τ sig (Elt F) Λ₀ (tile d i).2) (BitVec 32) :=
  k0_t1_body i numsM (Memref.isWhole_whole _) tableM (Memref.isWhole_whole _) outM (Memref.isWhole_whole _) listM (Memref.isWhole_whole _)
    slotsM (Memref.isWhole_whole _) panelM (Memref.isWhole_whole _) cc0_scratch3 cc0_scoped0 cc0_scoped1
/-- and of the loop that issues a later one. -/
abbrev fireNext (t : Fin k0_t2_loop.trips) (h : k0_cond1 t = 1#1) :
    Fin k0_t3_loop.trips → BitVec 32 → Prog (TpuEff nD τ sig (Elt F) Λ₀ (tile d i).2) (BitVec 32) :=
  k0_t3_body i numsM (Memref.isWhole_whole _) tableM (Memref.isWhole_whole _) outM (Memref.isWhole_whole _) listM (Memref.isWhole_whole _)
    slotsM (Memref.isWhole_whole _) panelM (Memref.isWhole_whole _) cc0_scratch3 cc0_scoped0 cc0_scoped1 t h
    (Scalar.addi (Scf.iv 0#32 1#32 t) 1#32)

theorem fireFirst_trip (hX : ∀ j, (X j).toNat < 1000000) (t : Fin k0_t1_loop.trips) (acc : BitVec 32) :
    Firing d i ιwm Tb X 0 t.val
      ⊢ wp frame (wpE (defs₀ (F := F)) 𝒱₀ (tile d i) none) Set.univ (fireFirst d i t acc)
          fun _ => (Firing d i ιwm Tb X 0 (t.val + 1) : sProp 𝕄) := by
  have ht : t.val < 8 := t1_lt t
  unfold fireFirst k0_t1_body
  iintro H
  iapply (wp_assume 𝒱₀ (tile d i) none Set.univ (by rw [fire0_word]; exact chk1_of (by omega)))
  icases (firing_list d i ιwm Tb X 0 t.val) $$ H with ⟨Hl, Hback⟩
  iapply (wp_number d i X (n := t.val) (by omega) (fire0_word t) (hl := View.loads_vmem h_S512)) $$ Hl
  iintro Hl %r %hr
  ihave H := Hback $$ Hl
  have e : extractAt ![0] (k0_pay1 (F := F) r) inpos_S1_p0 = X (numAt t.val) := (first_lane1 r).trans (hr _)
  iapply (wp_assume 𝒱₀ (tile d i) none Set.univ (chk2_of (by rw [e]; exact hX _)))
  iapply (wp_send d i ιwm Tb X (w := 0) (k := t.val) (by omega) ht hX (off2_eq t) (by rw [off3_eq, e]; simp) (flightSem_eq off4_eq)) $$ H
  iintro H
  iapply (le_wp_ret _ _)
  iexact H

theorem fireNext_trip (hX : ∀ j, (X j).toNat < 1000000) (t : Fin k0_t2_loop.trips) (h : k0_cond1 t = 1#1) (u : Fin k0_t3_loop.trips)
    (acc : BitVec 32) :
    Firing d i ιwm Tb X (t.val + 1) u.val
      ⊢ wp frame (wpE (defs₀ (F := F)) 𝒱₀ (tile d i) none) Set.univ (fireNext d i t h u acc)
          fun _ => (Firing d i ιwm Tb X (t.val + 1) (u.val + 1) : sProp 𝕄) := by
  have hu : u.val < 8 := t3_lt u
  have hw : t.val + 1 < 64 := (cond1_iff t).1 h
  unfold fireNext k0_t3_body
  iintro H
  iapply (wp_assume 𝒱₀ (tile d i) none Set.univ (by rw [fire_word]; exact fun _ => chk1_of (by omega)))
  icases (firing_list d i ιwm Tb X (t.val + 1) u.val) $$ H with ⟨Hl, Hback⟩
  iapply (wp_number d i X (n := 8 * (t.val + 1) + u.val) (by omega) (fire_word t u) (hl := View.loads_vmem h_S512)) $$ Hl
  iintro Hl %r %hr
  ihave H := Hback $$ Hl
  have e : extractAt ![0] (k0_pay2 (F := F) r) inpos_S1_p0 = X (numAt (8 * (t.val + 1) + u.val)) := (first_lane2 r).trans (hr _)
  iapply (wp_assume 𝒱₀ (tile d i) none Set.univ (chk4_of t (by rw [e]; exact hX _)))
  iapply (wp_send d i ιwm Tb X (w := t.val + 1) (k := u.val) hw hu hX (off5_eq t u) (by rw [off6_eq, e]) (flightSem_eq (off7_eq t))) $$ H
  iintro H
  iapply (le_wp_ret _ _)
  iexact H

end Cert.Proof

end
-- ==== Proof.Columns.lean ====
/-
  The columns of a wave that has landed, taken out of its slot and put into the panel.
-/
module

public import proofs.«01_k».proof.Proof.Waves

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers
open Cert.Proof.Flight

variable {F : FTy → Type} [FloatOps F]

local notation "𝕄" => MT nD τ sig (HIx 1) (Elt F) ℕ (UU F) ℕ

variable (d : Dev nD) (i : grid0.Coords) (ιwm : ℕ)
variable (Tb : S32x1000064.Idx → F .f32) (X : S512.Idx → BitVec 32)

/-- While the columns of wave `w` are taken: its slot holds what its copies brought, the other slot is in write mode,
    and the panel is right at the places `P`. -/
def Taking (w : ℕ) (q : PosShare TreeShare) (f' : S2x8x32x128.Idx → F .f32) (g : Tgt (Elt F) (slotsLoc d i))
    (W : Finset (Idx (slotsLoc d i))) (P : S32x512.Idx → Prop) : sProp 𝕄 :=
  iprop(wmInv EW ιwm ∗ (listLoc d i ↦[Finset.univ]{fullShare} X)
    ∗ (slotsLoc d i ↦[slot (w % 2)]{fullShare} waveOf Tb X w) ∗ willBeTo EW (slotsLoc d i) (slot ((w + 1) % 2)) q f' g W
    ∗ ∃ f : S32x512.Idx → F .f32, ⌜∀ j, P j → f j = panelOf Tb X j⌝ ∗ (panelLoc d i ↦[Finset.univ]{fullShare} f))

variable {w : ℕ} {q : PosShare TreeShare} {f' : S2x8x32x128.Idx → F .f32} {g : Tgt (Elt F) (slotsLoc d i)} {W : Finset (Idx (slotsLoc d i))}
variable {P P' : S32x512.Idx → Prop}

theorem taking_mono (h : ∀ j, P' j → P j) :
    Taking d i ιwm Tb X w q f' g W P ⊢ (Taking d i ιwm Tb X w q f' g W P' : sProp 𝕄) := by
  unfold Taking
  iintro ⟨#Hwm, Hl, Hs, Hd, %f, %hf, Hp⟩
  isplitr; · iexact Hwm
  isplitl [Hl]; · iexact Hl
  isplitl [Hs]; · iexact Hs
  isplitl [Hd]; · iexact Hd
  iexists f
  isplitr; · ipureintro; exact fun j hj => hf j (h j hj)
  iexact Hp

/-- The taking lends the tile's row numbers. -/
theorem taking_list :
    Taking d i ιwm Tb X w q f' g W P ⊢ iprop((listLoc d i ↦[Finset.univ]{fullShare} X)
      ∗ ((listLoc d i ↦[Finset.univ]{fullShare} X) -∗ Taking d i ιwm Tb X w q f' g W P) : sProp 𝕄) := by
  unfold Taking
  iintro ⟨#Hwm, Hl, Hs, Hd, Hp⟩
  isplitl [Hl]; · iexact Hl
  iintro Hl
  isplitr; · iexact Hwm
  isplitl [Hl]; · iexact Hl
  isplitl [Hs]; · iexact Hs
  isplitl [Hd]; · iexact Hd
  iexact Hp

/-- Half a column is taken: gathered out of its window, scattered into the panel. -/
theorem wp_half {L low v₀' v₁ v₂ : IVec S16 32} {o u : ℕ} (hL : Lanes L o) (hu : u < 8) (hw : w < 64) (hX : ∀ j, (X j).toNat < 1000000)
    (e₀ : v₀' = fun _ => BitVec.ofNat 32 (w % 2)) (e₁ : v₁ = fun _ => BitVec.ofNat 32 u) (e₂ : v₂ = fun _ => BitVec.ofNat 32 (8 * w + u))
    (hlow : ∀ x, (low x).toNat = (X (numAt (8 * w + u))).toNat % 128)
    {h4 : ∀ a x, ((![v₀', v₁, L, low] : Fin 4 → IVec S16 32) a x).toNat < S2x8x32x128.size a}
    {h5 : ∀ a x, ((![L, v₂] : Fin 2 → IVec S16 32) a x).toNat < S32x512.size a}
    {hl : (slotsM).view.Loads} {hs : ((panelM).access (.whole S32x512)).Stores Finset.univ}
    {α : Type} {kk : Prog (TpuEff nD τ sig (Elt F) Λ₀ (tile d i).2) α} {Q : α → sProp 𝕄} :
    Taking d i ιwm Tb X w q f' g W P
      ⊢ iprop((Taking d i ιwm Tb X w q f' g W (fun j => P j ∨ ((j 1).val = 8 * w + u ∧ o ≤ (j 0).val ∧ (j 0).val < o + 16))
            -∗ wp frame (wpE (defs₀ (F := F)) 𝒱₀ (tile d i) none) Set.univ kk Q)
        -∗ wp frame (wpE (defs₀ (F := F)) 𝒱₀ (tile d i) none) Set.univ
          (SparseCore.vectorLoadIdx (F := F) (Λ := Λ₀) (t := S16) slotsM ![v₀', v₁, L, low] h4 hl >>= fun v =>
            SparseCore.vectorStoreIdx (F := F) (Λ := Λ₀) (d := ![16]) panelM ![L, v₂] v (fun _ => 1#1) false h5 hs >>= fun _ => kk) Q) := by
  subst e₀ e₁ e₂
  unfold Taking
  iintro ⟨#Hwm, Hl, Hs, Hd, %f, %hf, Hp⟩ Hk
  iapply (wp_gatherBeside (emb := EW) (ιwm := ιwm) 𝒱₀ (tile d i) none (base := slotsM) (h := h4) (hl := hl)
    (S := slot (w % 2)) (S' := slot ((w + 1) % 2)) (slot_disjoint (by omega)) (slot_cover (by omega) (by omega) (by omega))) $$ [Hs Hd]
  · isplitr; · iexact Hwm
    isplitl [Hs]; · iexact Hs
    iexact Hd
  iintro %cur %hcur Hs Hd
  iapply (SparseCore.wp_vectorStoreIdx 𝒱₀ (tile d i) none Set.univ (base := panelM) (h := h5) (hs := hs) (f := f)) $$ [Hp]
  · rw [show ((panelM).access (.whole S32x512)).set = Finset.univ from Memref.set_access_whole _]
    iexact Hp
  iintro Hp
  iapply Hk
  isplitr; · iexact Hwm
  isplitl [Hl]; · iexact Hl
  isplitl [Hs]; · iexact Hs
  isplitl [Hd]; · iexact Hd
  rw [show ((panelM).access (.whole S32x512)).set = Finset.univ from Memref.set_access_whole _,
    show ((panelM).access (.whole S32x512)).read (Elt F) f = f from Memref.read_access_whole _ _ _,
    show ((slotsM).access (.whole S2x8x32x128)).read (Elt F) cur = cur from Memref.read_access_whole _ _ _]
  iexists _
  isplitr
  rotate_left
  · iexact Hp
  ipureintro
  intro j hj
  rw [show ∀ w', ((panelM).access (.whole S32x512)).write (Elt F) f w' Finset.univ = w' from fun w' => Memref.write_access_whole_univ _ _ _ _]
  exact take_half hL hu (by omega) (hX _) hlow hcur (hj.imp_left (hf j))

/-- A trip of the loop that takes a wave's columns. -/
abbrev takeBody (v : BitVec 32) : Fin k0_t4_loop.trips → BitVec 32 → Prog (TpuEff nD τ sig (Elt F) Λ₀ (tile d i).2) (BitVec 32) :=
  k0_t4_body i numsM (Memref.isWhole_whole _) tableM (Memref.isWhole_whole _) outM (Memref.isWhole_whole _) listM (Memref.isWhole_whole _)
    slotsM (Memref.isWhole_whole _) panelM (Memref.isWhole_whole _) cc0_scratch3 cc0_scoped0 cc0_scoped1 v

theorem take_trip (hX : ∀ j, (X j).toNat < 1000000) (t : Fin k0_t2_loop.trips) (u : Fin k0_t4_loop.trips) (acc : BitVec 32) :
    Taking d i ιwm Tb X t.val q f' g W (fun j => (j 1).val < 8 * t.val + u.val)
      ⊢ wp frame (wpE (defs₀ (F := F)) 𝒱₀ (tile d i) none) Set.univ (takeBody d i (Scf.iv 0#32 1#32 t.val) u acc)
          fun _ => (Taking d i ιwm Tb X t.val q f' g W (fun j => (j 1).val < 8 * t.val + (u.val + 1)) : sProp 𝕄) := by
  have hu : u.val < 8 := t4_lt u
  have hw : t.val < 64 := t2_lt t
  unfold takeBody k0_t4_body
  iintro H
  iapply (wp_assume 𝒱₀ (tile d i) none Set.univ (by rw [take_word]; exact chk1_of (by omega)))
  icases (taking_list d i ιwm Tb X) $$ H with ⟨Hl, Hback⟩
  iapply (wp_number d i X (n := 8 * t.val + u.val) (by omega) (take_word t u) (hl := View.loads_vmem h_S512)) $$ Hl
  iintro Hl %r %hr
  ihave H := Hback $$ Hl
  have hlow : ∀ x, (k0_pay3 (F := F) r x).toNat = (X (numAt (8 * t.val + u.val))).toNat % 128 := fun x => by
    rw [low_word, hr]
  have hlow' : ∀ x, (k0_pay3 (F := F) r x).toNat < 128 := fun x => by rw [hlow]; omega
  iapply (wp_assume 𝒱₀ (tile d i) none Set.univ (by
    rw [slot_word, win_word, take_word]
    exact take_chk lanes0 (by omega) hu (by omega) hlow'))
  iapply (wp_half d i ιwm Tb X lanes0 hu hw hX (slot_word t) (win_word u) (take_word t u) hlow
    (hl := View.loads_vmem h_S2x8x32x128) (hs := View.stores_vmem_bits_univ h_S32x512 rfl)) $$ H
  iintro H
  iapply (wp_assume 𝒱₀ (tile d i) none Set.univ (by
    rw [slot_word, win_word, take_word]
    exact take_chk lanes1 (by omega) hu (by omega) hlow'))
  iapply (wp_half d i ιwm Tb X lanes1 hu hw hX (slot_word t) (win_word u) (take_word t u) hlow
    (hl := View.loads_vmem h_S2x8x32x128) (hs := View.stores_vmem_bits_univ h_S32x512 rfl)) $$ H
  iintro H
  iapply (le_wp_ret _ _)
  iapply (taking_mono d i ιwm Tb X fun j hj => ?_) $$ H
  have : (j 0).val < 32 := (j 0).isLt
  omega

end Cert.Proof

end
-- ==== Proof.Body.lean ====
/-
  The loop over the waves: while one wave's columns are taken out of its slot, the next wave's copies are in flight into
  the other.
-/
module

public import proofs.«01_k».proof.Proof.Columns

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers
open Cert.Proof.Flight

variable {F : FTy → Type} [FloatOps F]

local notation "𝕄" => MT nD τ sig (HIx 1) (Elt F) ℕ (UU F) ℕ

variable (d : Dev nD) (i : grid0.Coords) (ιwm : ℕ)
variable (Tb : S32x1000064.Idx → F .f32) (X : S512.Idx → BitVec 32)

/-! ## Between two waves -/

/-- Wave `w` is in flight, all its copies issued; past the last wave its slot is at rest. -/
def InFlight (w : ℕ) : sProp 𝕄 :=
  if w < 64 then iprop(∃ f, Flying d i Tb X w 8 f) else Resting d i (w % 2)

theorem inFlight_lt {w : ℕ} (h : w < 64) : (InFlight d i Tb X w : sProp 𝕄) = iprop(∃ f, Flying d i Tb X w 8 f) := if_pos h
theorem inFlight_ge {w : ℕ} (h : ¬ w < 64) : (InFlight d i Tb X w : sProp 𝕄) = Resting d i (w % 2) := if_neg h

/-- What is owed, the waits so far recorded at no launch. -/
def Owes (O : CellTallies nD τ sig (HIx 1)) (W : Waits sig (HIx 1)) : sProp 𝕄 :=
  iprop(Transfers.MayWaits (tile d i) (none : HIx 1) O ∗ ∃ W', ⌜∀ p ∈ W', p ∈ W ∨ p.2 = none⌝ ∗ owes (tile d i) O W')

/-- Before wave `w` is taken: it is in flight, the other slot is at rest, the panel is right in the columns of the
    waves before. -/
def Between (O : CellTallies nD τ sig (HIx 1)) (W : Waits sig (HIx 1)) (w : ℕ) : sProp 𝕄 :=
  iprop(wmInv EW ιwm ∗ Reads (tableLoc d) Tb ∗ (listLoc d i ↦[Finset.univ]{fullShare} X)
    ∗ InFlight d i Tb X w ∗ Resting d i ((w + 1) % 2)
    ∗ (∃ f : S32x512.Idx → F .f32, ⌜∀ j, (j 1).val < 8 * w → f j = panelOf Tb X j⌝ ∗ (panelLoc d i ↦[Finset.univ]{fullShare} f))
    ∗ Owes d i O W)

/-- The next wave's slot is in write mode while it is in flight; past the last wave it can be put there. Either way it
    comes back as it was. -/
theorem lend (w : ℕ) :
    iprop(wmInv EW ιwm ∗ InFlight d i Tb X w) ⊢ |={Set.univ}=> (iprop(∃ q f g W, willBeTo EW (slotsLoc d i) (slot (w % 2)) q f g W
      ∗ (willBeTo EW (slotsLoc d i) (slot (w % 2)) q f g W -∗ |={Set.univ}=> InFlight d i Tb X w)) : sProp 𝕄) := by
  by_cases h : w < 64
  · rw [inFlight_lt d i Tb X h]
    unfold Flying
    iintro ⟨-, %f, Hd, HB⟩
    imodintro
    iexists _, _, _, _
    isplitl [Hd]; · iexact Hd
    iintro Hd
    imodintro
    iexists f
    isplitl [Hd]; · iexact Hd
    iexact HB
  · rw [inFlight_ge d i Tb X h]
    unfold Resting
    iintro ⟨#Hwm, Hsem, %f, Hs⟩
    imod (pointsTo_castIn (emb := EW) (ιwm := ιwm) (ℓ := slotsLoc d i) (fun _ => none) (E := Set.univ) (Set.mem_univ _)) $$ [Hs] with Hs
    · isplitr; · iexact Hwm
      iexact Hs
    imodintro
    iexists _, _, _, _
    isplitl [Hs]; · iexact Hs
    iintro Hs
    imod (willBeTo_castOut (emb := EW) (ιwm := ιwm) (E := Set.univ) (Set.mem_univ _)) $$ [Hs] with ⟨%f', -, Hs⟩
    · isplitr; · iexact Hwm
      iexact Hs
    imodintro
    isplitl [Hsem]; · iexact Hsem
    iexists f'; iexact Hs

/-- A trip of the loop over the waves. -/
abbrev waveBody : Fin k0_t2_loop.trips → BitVec 32 → Prog (TpuEff nD τ sig (Elt F) Λ₀ (tile d i).2) (BitVec 32) :=
  k0_t2_body i numsM (Memref.isWhole_whole _) tableM (Memref.isWhole_whole _) outM (Memref.isWhole_whole _) listM (Memref.isWhole_whole _)
    slotsM (Memref.isWhole_whole _) panelM (Memref.isWhole_whole _) cc0_scratch3 cc0_scoped0 cc0_scoped1

/-- A wave is waited for: its slot holds what the copies brought, its semaphore is at zero again. -/
theorem wp_landed {w : ℕ} {f : S2x8x32x128.Idx → F .f32} {O : CellTallies nD τ sig (HIx 1)} {W : Waits sig (HIx 1)}
    {off : Fin 4 → ℕ} {h} {sm : DmaSem sig} (em : sm = cellOf (w % 2)) {srcw : Memref sig .scVector .hbm S32x1024 .f32}
    {hsrc : srcw.view.WordExact} {hdst : (waitDst off h).view.WordExact}
    {α : Type} {kk : PUnit → Prog (TpuEff nD τ sig (Elt F) Λ₀ (tile d i).2) α} {Q : α → sProp 𝕄} :
    iprop(wmInv EW ιwm ∗ Flying d i Tb X w 8 f ∗ Owes d i O W)
      ⊢ iprop((iprop((slotsLoc d i ↦[slot (w % 2)]{fullShare} waveOf Tb X w) ∗ semVal ((tile d i, slotCell (w % 2)) : GSem nD τ sig) 0
              ∗ Owes d i O W) -∗ wp frame (wpE (defs₀ (F := F)) 𝒱₀ (tile d i) none) Set.univ (kk ⟨⟩) Q)
        -∗ wp frame (wpE (defs₀ (F := F)) 𝒱₀ (tile d i) none) Set.univ
          (.op (.waitDma2 sm srcw (waitDst off h) hsrc hdst) kk) Q) := by
  subst em
  unfold Flying Owes
  iintro ⟨#Hwm, ⟨Hd, HB⟩, #Hmw, %W', %hW', HO⟩ Hk
  iapply (wp_waitBatchAllO (n := 8) EC 𝒱₀ (tile d i) none (srcw := srcw) (dstw := waitDst off h) (none : HIx 1) (N := blockCredit) (wait_credit off h)
    (by decide) (u := 0) (by decide)) $$ [HB HO]
  · isplitl [HB]; · iexact HB
    isplitl [HO]; · iexact HO
    iapply (Transfers.MayWaits.elim (slotCell (w % 2))) $$ Hmw
  iintro ⟨HD, Hsem, HO⟩
  imod (collect (emb := EW) (ιwm := ιwm) (ℓ := slotsLoc d i) (f := f) (g := waveOf Tb X w) (mark := win (w % 2)) (win_cover (w % 2))) $$ [HD Hd] with Hs
  · isplitr; · iexact Hwm
    isplitl [HD]; · iexact HD
    iexact Hd
  iapply Hk
  isplitl [Hs]; · iexact Hs
  isplitl [Hsem]; · iexact Hsem
  isplitr; · iexact Hmw
  iexists _
  isplitr
  rotate_left
  · iexact HO
  ipureintro; intro p hp
  rcases Finset.mem_insert.mp hp with hp | hp
  · exact .inr (hp ▸ rfl)
  · exact hW' p hp

/-- What a trip does once the next wave's copies are issued: it waits for its own wave, and takes its columns. -/
def waveRest (t : Fin k0_t2_loop.trips) : Prog (TpuEff nD τ sig (Elt F) Λ₀ (tile d i).2) (BitVec 32) := do
  Prog.lift (.waitDma2 (flightSem (k0_off9 t) (k0_off9_inb t))
    ((tableM).slice (Rect.unit (s := S32x1000064) ![0, 0] S32x1024.size inb_S32x1000064_S32x1024_0_0) (fun _ => rfl))
    (waitDst (k0_off8 t) (k0_off8_inb t)) (View.wordExact_bits rfl) ((View.wordExact_bits rfl).reshape _ _))
  let _ : BitVec 32 ← Scf.Loop.for k0_t4_loop k0_t4_ok 0#32 (takeBody d i (Scf.iv 0#32 1#32 t.val))
  pure 0#32

theorem wave_rest (hX : ∀ j, (X j).toNat < 1000000) (O : CellTallies nD τ sig (HIx 1)) (W : Waits sig (HIx 1)) (t : Fin k0_t2_loop.trips) :
    iprop(wmInv EW ιwm ∗ Reads (tableLoc d) Tb ∗ (listLoc d i ↦[Finset.univ]{fullShare} X)
        ∗ (∃ f, Flying d i Tb X t.val 8 f) ∗ InFlight d i Tb X (t.val + 1)
        ∗ (∃ f : S32x512.Idx → F .f32, ⌜∀ j, (j 1).val < 8 * t.val → f j = panelOf Tb X j⌝ ∗ (panelLoc d i ↦[Finset.univ]{fullShare} f))
        ∗ Owes d i O W)
      ⊢ wp frame (wpE (defs₀ (F := F)) 𝒱₀ (tile d i) none) Set.univ (waveRest d i t)
          fun _ => (Between d i ιwm Tb X O W (t.val + 1) : sProp 𝕄) := by
  unfold waveRest
  iintro ⟨#Hwm, Hr, Hl, ⟨%f, Hf⟩, Hnext, ⟨%p, %hp, Hp⟩, HO⟩
  iapply (wp_landed d i ιwm Tb X (w := t.val) (flightSem_eq (off9_eq t))) $$ [Hf HO]
  · isplitr; · iexact Hwm
    isplitl [Hf]; · iexact Hf
    iexact HO
  iintro ⟨Hs, Hsem, HO⟩
  imod (lend d i ιwm Tb X (t.val + 1)) $$ [Hnext] with ⟨%q, %f', %g, %V, Hd, Hback⟩
  · isplitr; · iexact Hwm
    iexact Hnext
  simp only [Prog.bind]
  sl_for (fun u _ => Taking d i ιwm Tb X t.val q f' g V (fun j => (j 1).val < 8 * t.val + u)) $$ [Hl Hs Hd Hp]
  case region =>
    intro u acc
    exact take_trip d i ιwm Tb X hX t u acc
  · unfold Taking
    isplitr; · iexact Hwm
    isplitl [Hl]; · iexact Hl
    isplitl [Hs]; · iexact Hs
    isplitl [Hd]; · iexact Hd
    iexists p
    isplitr; · ipureintro; exact hp
    iexact Hp
  iintro %_ H
  unfold Taking
  icases H with ⟨-, Hl, Hs, Hd, Hp⟩
  imod Hback $$ Hd with Hnext
  iapply (le_wp_ret _ _)
  unfold Between
  isplitr; · iexact Hwm
  isplitl [Hr]; · iexact Hr
  isplitl [Hl]; · iexact Hl
  isplitl [Hnext]; · iexact Hnext
  isplitl [Hs Hsem]
  · rw [show (t.val + 1 + 1) % 2 = t.val % 2 by omega]
    unfold Resting
    isplitl [Hsem]; · iexact Hsem
    iexists _; iexact Hs
  isplitl [Hp]
  · iexact Hp
  iexact HO

theorem wave_trip (hX : ∀ j, (X j).toNat < 1000000) (O : CellTallies nD τ sig (HIx 1)) (W : Waits sig (HIx 1))
    (t : Fin k0_t2_loop.trips) (acc : BitVec 32) :
    Between d i ιwm Tb X O W t.val
      ⊢ wp frame (wpE (defs₀ (F := F)) 𝒱₀ (tile d i) none) Set.univ (waveBody d i t acc)
          fun _ => (Between d i ιwm Tb X O W (t.val + 1) : sProp 𝕄) := by
  have ht : t.val < 64 := t2_lt t
  unfold waveBody k0_t2_body Between
  rw [inFlight_lt d i Tb X ht]
  iintro ⟨#Hwm, Hr, Hl, Hf, Hrest, Hp, HO⟩
  by_cases h : k0_cond1 t = 1#1
  · have hw := (cond1_iff t).1 h
    simp only [dif_pos h]
    imod (ready d i ιwm Tb X (t.val + 1)) $$ [Hrest] with ⟨%g, Hg⟩
    · isplitr; · iexact Hwm
      iexact Hrest
    sl_for (fun u _ => Firing d i ιwm Tb X (t.val + 1) u) $$ [Hr Hl Hg]
    case region =>
      intro u acc
      exact fireNext_trip d i ιwm Tb X hX t h u acc
    · unfold Firing
      isplitr; · iexact Hwm
      isplitl [Hr]; · iexact Hr
      isplitl [Hl]; · iexact Hl
      iexists g; iexact Hg
    iintro %_ H
    unfold Firing
    icases H with ⟨-, Hr, Hl, Hg⟩
    iapply (wave_rest d i ιwm Tb X hX O W t)
    isplitr; · iexact Hwm
    isplitl [Hr]; · iexact Hr
    isplitl [Hl]; · iexact Hl
    isplitl [Hf]; · iexact Hf
    isplitl [Hg]
    · rw [inFlight_lt d i Tb X hw]; iexact Hg
    isplitl [Hp]; · iexact Hp
    iexact HO
  · have hw : ¬ t.val + 1 < 64 := fun hw => h ((cond1_iff t).2 hw)
    simp only [dif_neg h]
    iapply (wave_rest d i ιwm Tb X hX O W t)
    isplitr; · iexact Hwm
    isplitl [Hr]; · iexact Hr
    isplitl [Hl]; · iexact Hl
    isplitl [Hf]; · iexact Hf
    isplitl [Hrest]
    · rw [inFlight_ge d i Tb X hw]; iexact Hrest
    isplitl [Hp]; · iexact Hp
    iexact HO

end Cert.Proof

end
-- ==== Proof.Parts.lean ====
/-
  A tile's part of the row numbers and of the result, and its own semaphores and buffers.
-/
module

public import proofs.«01_k».proof.Proof.Body

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers
open Cert.Proof.Flight

variable {F : FTy → Type} [FloatOps F]

local notation "𝕄" => MT nD τ sig (HIx 1) (Elt F) ℕ (UU F) ℕ

variable (d : Dev nD) (i : grid0.Coords)

/-! ## A tile's part of the row numbers and of the result -/

/-- The tile's row numbers, among all of them. -/
abbrev numsPart (i : grid0.Coords) : Memref sig .scVector .hbm S512 .i32 :=
  (numsM).slice (Rect.unit (s := S16384) (k0_off1 i) S512.size (k0_off1_inb i)) (fun _ => rfl)
/-- The tile's columns of the result. -/
abbrev outPart (i : grid0.Coords) : Memref sig .scVector .hbm S32x512 .f32 :=
  (outM).slice (Rect.unit (s := S32x16384) (k0_off10 i) S32x512.size (k0_off10_inb i)) (fun _ => rfl)

/-- The `n`-th of all the row numbers. -/
def rowAt (n : ℕ) : S16384.Idx := fun a => match a with
  | ⟨0, _⟩ => (⟨n % 16384, Nat.mod_lt _ (by decide)⟩ : Fin 16384)

/-- The result, as the tiles lay it down: column `p` is the table's column that the `p`-th row number names. -/
def outOf (Tb : S32x1000064.Idx → F .f32) (x : S16384.Idx → BitVec 32) : S32x16384.Idx → F .f32 :=
  fun j => Tb (cellAt (j 0) (x (rowAt (j 1).val)).toNat)

/-- The elements of the tile's columns. -/
def cols (i : grid0.Coords) : Finset S32x16384.Idx := Finset.univ.filter fun j => base i ≤ (j 1).val ∧ (j 1).val < base i + 512

theorem mem_cols {i : grid0.Coords} {j : S32x16384.Idx} : j ∈ cols i ↔ base i ≤ (j 1).val ∧ (j 1).val < base i + 512 := by simp [cols]

theorem outPart_set : (outPart i).view.set = cols i := by
  refine (View.set_slice_whole main_v2_scv (Rect.unit (s := S32x16384) _ S32x512.size _)).trans ?_
  ext j
  rw [Rect.mem_set_unit, mem_cols]
  have e0 : k0_off10 i 0 = 0 := congrFun (off10_eq i) 0
  have e1 : k0_off10 i 1 = base i := congrFun (off10_eq i) 1
  constructor
  · intro h
    have h1 : k0_off10 i 1 ≤ (j 1).val ∧ (j 1).val < k0_off10 i 1 + 512 := h 1
    rwa [e1] at h1
  · intro h a
    match a with
    | ⟨0, _⟩ =>
      show k0_off10 i 0 ≤ (j 0).val ∧ (j 0).val < k0_off10 i 0 + 32
      have : (j 0).val < 32 := (j 0).isLt
      omega
    | ⟨1, _⟩ =>
      show k0_off10 i 1 ≤ (j 1).val ∧ (j 1).val < k0_off10 i 1 + 512
      omega

theorem numsPart_read (x : S16384.Idx → BitVec 32) {n : ℕ} (hn : n < 512) :
    (numsPart i).view.read (Elt F) x (numAt n) = x (rowAt (base i + n)) := by
  show x ((numsPart i).view.emb (numAt n)) = _
  congr 1
  funext a
  apply Fin.ext
  match a with
  | ⟨0, _⟩ =>
    show k0_off1 i 0 + 1 * (n % 512) = (base i + n) % 16384
    rw [show k0_off1 i 0 = base i from congrFun (off1_eq i) 0]
    have := base_le i
    omega

/-- The panel, written to the tile's columns, is the result there. -/
theorem outPart_write (Tb : S32x1000064.Idx → F .f32) (x : S16384.Idx → BitVec 32) (f : S32x16384.Idx → F .f32) :
    ∀ j ∈ (outPart i).view.set,
      (outPart i).view.write (Elt F) f (panelOf Tb ((numsPart i).view.read (Elt F) x)) Finset.univ j = outOf Tb x j := by
  intro j hj
  obtain ⟨y, -, rfl⟩ := Finset.mem_map.1 hj
  rw [View.write_emb_of_mem _ _ (Finset.mem_univ y)]
  show panelOf Tb _ y = outOf Tb x ((outPart i).view.emb y)
  unfold panelOf outOf
  have hy : (y 1).val < 512 := (y 1).isLt
  rw [numsPart_read i x hy]
  have e0 : ((outPart i).view.emb y 0).val = (y 0).val := by
    show k0_off10 i 0 + 1 * (y 0).val = _
    rw [show k0_off10 i 0 = 0 from congrFun (off10_eq i) 0]; omega
  have e1 : ((outPart i).view.emb y 1).val = base i + (y 1).val := by
    show k0_off10 i 1 + 1 * (y 1).val = _
    rw [show k0_off10 i 1 = base i from congrFun (off10_eq i) 1]; omega
  rw [e1, show (outPart i).view.emb y 0 = y 0 from Fin.ext e0]

/-! ## A tile's own semaphores and buffers -/

abbrev cell0 : GSem nD τ sig := (tile d i, slotCell 0)
abbrev cell1 : GSem nD τ sig := (tile d i, slotCell 1)
abbrev cell2 : GSem nD τ sig := (tile d i, .dma cc0_scoped0.sem)
abbrev cell3 : GSem nD τ sig := (tile d i, .dma cc0_scoped1.sem)

omit [FloatOps F] in
/-- The four semaphores the body uses are among the tile's own. -/
theorem ownSems_split :
    (ownSems0 (tile d i) : sProp 𝕄)
      = iprop(semVal (cell0 d i) 0 ∗ semVal (cell1 d i) 0 ∗ semVal (cell2 d i) 0 ∗ semVal (cell3 d i) 0
          ∗ bigSep (((((ownCells (tile d i)).erase (cell0 d i)).erase (cell1 d i)).erase (cell2 d i)).erase (cell3 d i)) fun g => semVal g 0) := by
  have own : ∀ c : DmaSem sig, ((tile d i, .dma c) : GSem nD τ sig) ∈ ownCells (tile d i) := fun c =>
    mem_ownCells.mpr ⟨rfl, (show ∀ c : DmaSem sig, (SemLoc.dma c : SemLoc sig).isScoped .scVector = true by decide) c⟩
  have ne : ∀ {a b : DmaSem sig}, a ≠ b → ((tile d i, .dma a) : GSem nD τ sig) ≠ (tile d i, .dma b) := fun h e => h (by
    have := congrArg Prod.snd e
    injection this)
  unfold SparseCore.Cfg.ownSems0
  rw [SparseCore.bigSep_erase' (own (cellOf 0)),
    SparseCore.bigSep_erase' (Finset.mem_erase.mpr ⟨ne (by decide), own (cellOf 1)⟩),
    SparseCore.bigSep_erase' (Finset.mem_erase.mpr ⟨ne (by decide), Finset.mem_erase.mpr ⟨ne (by decide), own cc0_scoped0.sem⟩⟩),
    SparseCore.bigSep_erase' (Finset.mem_erase.mpr ⟨ne (by decide), Finset.mem_erase.mpr ⟨ne (by decide),
      Finset.mem_erase.mpr ⟨ne (by decide), own cc0_scoped1.sem⟩⟩⟩)]

omit [FloatOps F] in
/-- The three scratch buffers are among the tile's own. -/
theorem ownBufs_split :
    (ownBufs (tile d i) : sProp 𝕄)
      = iprop((∃ f, listLoc d i ↦{fullShare} f) ∗ (∃ f, slotsLoc d i ↦{fullShare} f) ∗ (∃ f, panelLoc d i ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  have own : ∀ r : Ref sig .scVector, ((Proc.scVector (cV i) (jV i)).devRef r).owner = .proc (.scVector (cV i) (jV i)) →
      (Proc.scVector (cV i) (jV i)).devRef r ∈ ownRefs (τ := τ) (.scVector (cV i) (jV i)) := fun r h =>
    SparseCore.Cfg.mem_ownRefs_of_owner h
  have ne : ∀ {a b : Ref sig .scVector}, a ≠ b → (Proc.scVector (cV i) (jV i)).devRef a ≠ (Proc.scVector (cV i) (jV i)).devRef b :=
    fun h e => h (Proc.devRef_injective _ e)
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]

end Cert.Proof

end
-- ==== Proof.Tile.lean ====
/-
  The kernel on one tile.
-/
module

public import proofs.«01_k».proof.Proof.Parts

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers
open Cert.Proof.Flight

variable {F : FTy → Type} [FloatOps F]

local notation "𝕄" => MT nD τ sig (HIx 1) (Elt F) ℕ (UU F) ℕ

variable (d : Dev nD) (i : grid0.Coords)
variable (Tb : S32x1000064.Idx → F .f32) (x : S16384.Idx → BitVec 32)

/-- What a tile is given: shares of the row numbers and of the table, its columns of the result, -/
def TileIn (f : S32x16384.Idx → F .f32) : sProp 𝕄 :=
  iprop(Reads (numsLoc d) x ∗ Reads (tableLoc d) Tb ∗ (outLoc d ↦[cols i]{fullShare} f))
/-- and what it gives back: its columns, as they are to be. -/
def TileOut : sProp 𝕄 := (outLoc d ↦[cols i]{fullShare} outOf Tb x)

/-- The kernel on the tile at `i`. -/
abbrev tileProg : Prog (TpuEff nD τ sig (Elt F) Λ₀ (tile d i).2) PUnit :=
  cc0_emb i numsM (Memref.isWhole_whole _) tableM (Memref.isWhole_whole _) outM (Memref.isWhole_whole _) listM (Memref.isWhole_whole _)
    slotsM (Memref.isWhole_whole _) panelM (Memref.isWhole_whole _) cc0_scratch3 cc0_scoped0 cc0_scoped1

set_option maxHeartbeats 4000000 in
theorem tile_body (hF : (K (F := F)).Facts) (hx : ∀ j, (x j).toNat < 1000000) (f : S32x16384.Idx → F .f32)
    (O : CellTallies nD τ sig (HIx 1)) (W : Waits sig (HIx 1)) (hO : ∀ g, O g none = 0) :
    iprop(levAts (K (F := F)).L (K (F := F)).lev ∗ (∃ ιwm, wmInv EW ιwm) ∗ TileIn d i Tb x f
        ∗ scopedBufs (tile d i) ∗ scopedSems0 (tile d i) ∗ owes (tile d i) O W)
      ⊢ wp frame (wpE (defs₀ (F := F)) 𝒱₀ (tile d i) none) Set.univ (tileProg (F := F) d i)
          fun _ => (iprop(TileOut d i Tb x ∗ scopedBufs (tile d i) ∗ scopedSems0 (tile d i)
            ∗ ∃ W', ⌜∀ p ∈ W', p ∈ W ∨ p.2 = none⌝ ∗ owes (tile d i) O W') : sProp 𝕄) := by
  unfold tileProg
  simp only [cc0_emb_eq_skeleton]; unfold cc0_emb_skel
  rw [(K (F := F)).scopedBufs_V hF d (cV i) (jV i), SparseCore.Cfg.scopedSems0_V (Val := Elt F) d (cV i) (jV i), ownSems_split, ownBufs_split]
  unfold TileIn
  iintro ⟨#Hlv, ⟨%ιwm, #Hwm⟩, ⟨Hx, HT, Ho⟩, ⟨⟨%fl, Hl⟩, ⟨%fs, Hs⟩, ⟨%fp, Hp⟩, Hbufs⟩, ⟨H0, H1, H2, H3, Hsems⟩, HO⟩
  ihave Hmw := (show levAts (K (F := F)).L (K (F := F)).lev ⊢ Transfers.MayWaits (tile d i) (default : HIx 1) O from
    (K (F := F)).mayWaits_none (thr := tile d i) hO) $$ Hlv
  icases (show Reads (numsLoc d) x ⊢ (iprop(∃ q, numsLoc d ↦{q} x) : sProp 𝕄) from .rfl) $$ Hx with ⟨%qx, Hx⟩
  ihave Hx' := (Entails.of_eq (show ((numsLoc d ↦{qx} x : sProp 𝕄)) = ((numsM).view.loc (tile d i) ↦{qx} x) from rfl)) $$ Hx
  ihave Hl' := (Entails.of_eq (show ((listLoc d i ↦{fullShare} fl : sProp 𝕄)) = ((listM).view.loc (tile d i) ↦{fullShare} fl) from rfl)) $$ Hl
  sl_exec
  -- the row numbers are in the tile's list
  let X : S512.Idx → BitVec 32 := (numsPart i).view.read (Elt F) x
  have hX : ∀ j, (X j).toNat < 1000000 := fun j => hx ((numsPart i).view.emb j)
  ihave Hl := (Entails.of_eq (show ((listM).view.loc (tile d i) ↦{fullShare} View.write (Elt F) (listM).view fl (tile_body.sl.dma0 i x) Finset.univ : sProp 𝕄)
    = (listLoc d i ↦{fullShare} X) by rw [View.write_whole_univ]; rfl)) $$ Hl'
  -- the double buffer is its two slots
  ihave Hs := (pointsTo_split_subset (q := fullShare) (f := fs) (S := Finset.univ) (Finset.subset_univ (slot 0))).1 $$ Hs
  icases Hs with ⟨Hs0, Hs1⟩
  rw [show Finset.univ \ slot 0 = slot 1 from by
    rw [← slot_cover (p := 0) (q := 1) (by decide) (by decide) (by decide), Finset.union_sdiff_cancel_left (slot_disjoint (by decide))]]
  imod (ready d i ιwm Tb X 0) $$ [H0 Hs0] with ⟨%g, Hg⟩
  · isplitr; · iexact Hwm
    unfold Resting
    isplitl [H0]; · iexact H0
    iexists fs; iexact Hs0
  -- the first wave is issued
  sl_for (fun k _ => Firing d i ιwm Tb X 0 k) $$ [HT Hl Hg]
  case region =>
    intro k acc
    exact fireFirst_trip d i ιwm Tb X hX k acc
  · unfold Firing
    isplitr; · iexact Hwm
    isplitl [HT]; · iexact HT
    isplitl [Hl]; · iexact Hl
    iexists g; iexact Hg
  iintro %_ H
  unfold Firing
  icases H with ⟨-, HT, Hl, Hg⟩
  -- the waves
  sl_for (fun w _ => Between d i ιwm Tb X O W w) $$ [HT Hl Hg H1 Hs1 Hp HO]
  case region =>
    intro w acc
    exact wave_trip d i ιwm Tb X hX O W w acc
  · unfold Between
    isplitr; · iexact Hwm
    isplitl [HT]; · iexact HT
    isplitl [Hl]; · iexact Hl
    isplitl [Hg]
    · rw [inFlight_lt d i Tb X (by decide)]; iexact Hg
    isplitl [H1 Hs1]
    · unfold Resting
      isplitl [H1]; · iexact H1
      iexists fs; iexact Hs1
    isplitl [Hp]
    · iexists fp
      isplitr; · ipureintro; intro j hj; exact absurd hj (Nat.not_lt_zero _)
      iexact Hp
    unfold Owes
    isplitr; · iexact Hmw
    iexists _
    isplitr
    rotate_left
    · iexact HO
    ipureintro; intro p hp
    rcases Finset.mem_insert.mp hp with hp | hp
    · exact .inr (hp ▸ rfl)
    · exact .inl hp
  iintro %_ H
  unfold Between
  rw [show Scf.trips k0_t2_loop.lb k0_t2_loop.ub k0_t2_loop.st = 64 from rfl, inFlight_ge d i Tb X (by decide)]
  unfold Owes Resting
  icases H with ⟨-, -, Hl, ⟨H0, %f0, Hs0⟩, ⟨H1, %f1, Hs1⟩, ⟨%p, %hp, Hp⟩, -, %W', %hW', HO⟩
  obtain rfl : p = panelOf Tb X := funext fun j => hp j (by have : (j 1).val < 512 := (j 1).isLt; omega)
  -- the panel goes out
  ihave Ho' := (Entails.of_eq (show ((outLoc d ↦[cols i]{fullShare} f : sProp 𝕄)) = ((outPart i).view.loc (tile d i) ↦[(outPart i).view.set]{fullShare} f) by
    rw [outPart_set])) $$ Ho
  ihave Hp' := (Entails.of_eq (show ((panelLoc d i ↦{fullShare} panelOf Tb X : sProp 𝕄)) = ((panelM).view.loc (tile d i) ↦{fullShare} panelOf Tb X) from rfl)) $$ Hp
  sl_exec
  rw [← View.write_univ_eq_writes_whole (outPart i).view f [] (tile_body.sl.dma0_1 i Tb x),
    show (outPart i).view.write (Elt F) ((outPart i).view.writes (Elt F) f []) (tile_body.sl.dma0_1 i Tb x) Finset.univ
      = (outPart i).view.write (Elt F) f (panelOf Tb ((numsPart i).view.read (Elt F) x)) Finset.univ from rfl]
  ihave Ho := (Entails.of_eq ((pointsTo_congr (outPart_write i Tb x f)).trans
    (show ((outPart i).view.loc (tile d i) ↦[(outPart i).view.set]{fullShare} outOf Tb x : sProp 𝕄) = TileOut d i Tb x by
      rw [outPart_set]; rfl))) $$ Ho'
  ihave Hs := (pointsTo_join (ℓ := slotsLoc d i) (q := fullShare) (f := f0) (g := f1) (slot_disjoint (p := 64 % 2) (q := (64 + 1) % 2) (by decide))) $$ [Hs0 Hs1]
  · isplitl [Hs0] <;> iassumption
  rw [slot_cover (p := 64 % 2) (q := (64 + 1) % 2) (by decide) (by decide) (by decide)]
  iapply (le_wp_ret _ _)
  isplitl [Ho]; · iexact Ho
  isplitl [Hl Hs Hp' Hbufs]
  · isplitl [Hl]; · iexists _; iexact Hl
    isplitl [Hs]; · iexists _; iexact Hs
    isplitl [Hp']; · iexists _; iexact Hp'
    iexact Hbufs
  isplitl [H0 H1 H2 H3 Hsems]
  · isplitl [H0]; · iexact H0
    isplitl [H1]; · iexact H1
    isplitl [H2]; · iexact H2
    isplitl [H3]; · iexact H3
    iexact Hsems
  iexists _; isplitr
  swap; · iexact HO
  ipureintro; intro p hp
  rcases Finset.mem_insert.mp hp with hp | hp; · exact .inr (hp ▸ rfl)
  exact hW' p hp

end Cert.Proof

end
-- ==== Proof.Launch.lean ====
/-
  The launch: what the TensorCore hands the two SparseCores and they their tiles, how the result's columns split among
  the tiles and join again, and a tile's obligation.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Proof.Flight

variable {F : FTy → Type} [FloatOps F]

local notation "𝕄" => MT nD τ sig (HIx 1) (Elt F) ℕ (UU F) ℕ

/-! ## The tiles, and the columns of a SparseCore -/

/-- The tile at SparseCore `c`, subcore `s`, as a coordinate of the launch. -/
def at' (c : Fin (grid0.bound 0)) (s : Fin (grid0.bound 1)) : grid0.Coords :=
  fun | 0 => c | 1 => s | ⟨_ + 2, h⟩ => absurd h (Nat.not_lt.2 (Nat.le_add_left _ _))

theorem base_at (c : Fin (grid0.bound 0)) (s : Fin (grid0.bound 1)) : base (at' c s) = (s.val * 2 + c.val) * 512 := rfl

/-- The columns the tiles of SparseCore `c` lay down. -/
def coreCols (c : Fin (grid0.bound 0)) : Finset S32x16384.Idx := Finset.univ.biUnion fun s => cols (at' c s)

theorem cols_disjoint (c : Fin (grid0.bound 0)) :
    ∀ s ∈ (Finset.univ : Finset (Fin (grid0.bound 1))), ∀ s' ∈ (Finset.univ : Finset (Fin (grid0.bound 1))), s ≠ s' →
      Disjoint (cols (at' c s)) (cols (at' c s')) := by
  intro s _ s' _ hs
  refine Finset.disjoint_left.2 fun j h h' => hs (Fin.ext ?_)
  rw [mem_cols, base_at] at h h'
  omega

theorem mem_coreCols {c : Fin (grid0.bound 0)} {j : S32x16384.Idx} : j ∈ coreCols c ↔ (j 1).val / 512 % 2 = c.val := by
  have hc : c.val < 2 := c.isLt
  have hj : (j 1).val < 16384 := (j 1).isLt
  unfold coreCols
  rw [Finset.mem_biUnion]
  constructor
  · rintro ⟨s, -, h⟩
    rw [mem_cols, base_at] at h
    omega
  · intro h
    refine ⟨(⟨(j 1).val / 1024, by omega⟩ : Fin 16), Finset.mem_univ _, mem_cols.2 ?_⟩
    show ((j 1).val / 1024 * 2 + c.val) * 512 ≤ _ ∧ _ < ((j 1).val / 1024 * 2 + c.val) * 512 + 512
    omega

theorem coreCols_disjoint :
    ∀ c ∈ (Finset.univ : Finset (Fin (grid0.bound 0))), ∀ c' ∈ (Finset.univ : Finset (Fin (grid0.bound 0))), c ≠ c' →
      Disjoint (coreCols c) (coreCols c') := by
  intro c _ c' _ hc
  refine Finset.disjoint_left.2 fun j h h' => hc (Fin.ext ?_)
  rw [mem_coreCols] at h h'
  exact h.symm.trans h'

theorem coreCols_cover : (Finset.univ : Finset (Fin (grid0.bound 0))).biUnion coreCols = Finset.univ := by
  ext j
  simp only [Finset.mem_biUnion, Finset.mem_univ, true_and, iff_true]
  exact ⟨(⟨(j 1).val / 512 % 2, Nat.mod_lt _ (by decide)⟩ : Fin 2), mem_coreCols.2 rfl⟩

/-- The result whole is the SparseCores' columns, -/
theorem out_cores (d : Dev nD) (f : S32x16384.Idx → F .f32) :
    (outLoc d ↦{fullShare} f : sProp 𝕄) = bigSep Finset.univ fun c : Fin (grid0.bound 0) => outLoc d ↦[coreCols c]{fullShare} f := by
  rw [← pointsTo_biUnion (ℓ := outLoc d) Finset.univ coreCols coreCols_disjoint, coreCols_cover]
/-- and a SparseCore's are its tiles'. -/
theorem out_tiles (d : Dev nD) (c : Fin (grid0.bound 0)) (f : S32x16384.Idx → F .f32) :
    (outLoc d ↦[coreCols c]{fullShare} f : sProp 𝕄)
      = bigSep Finset.univ fun s : Fin (grid0.bound 1) => outLoc d ↦[cols (at' c s)]{fullShare} f :=
  pointsTo_biUnion (ℓ := outLoc d) Finset.univ (fun s => cols (at' c s)) (cols_disjoint c)

/-! ## What the handshakes carry -/

variable (m : (ℓ : Loc nD τ sig) → Buf (Elt F) ℓ)

/-- The row numbers at launch, -/
def numsOf (d : Dev nD) : S16384.Idx → BitVec 32 := m (numsLoc d)
/-- the table turned on its side and widened to whole blocks, -/
def wide (t : S1000000x32.Idx → F .f32) : S32x1000064.Idx → F .f32 :=
  pad S32x1000064 ![0, 0] ![0, 64] ![0, 0] (transpose S32x1000000 [1, 0] t transposes_S1000000x32_S32x1000000_1_0)
    (sitofp .f32 (constantI S_ 32 0#32)) pads_S32x1000000_S32x1000064_000_0640 h_S_
/-- so at launch. -/
def tableOf (d : Dev nD) : S32x1000064.Idx → F .f32 := wide (m ((SparseCore.T d).loc main_arg1))

/-- A SparseCore is given shares of the row numbers and of the table, and its columns of the result; it gives the columns
    back. Its tiles likewise. Each tile is told that copies in flight side by side may be accounted for. -/
def P : (K (F := F)).Pay (nD := nD) (Val := Elt F) (Name := ℕ) (U := UU F) where
  st := fun q d c => match q with
    | 0 => iprop(Reads (numsLoc d) (numsOf m d) ∗ Reads (tableLoc d) (tableOf m d) ∗ (outLoc d ↦[coreCols c]{fullShare} m (outLoc d)))
  dn := fun q d c => match q with | 0 => (outLoc d ↦[coreCols c]{fullShare} outOf (tableOf m d) (numsOf m d))
  go := fun q d c s => match q with | 0 => TileIn d (at' c s) (tableOf m d) (numsOf m d) (m (outLoc d))
  td := fun q d c s => match q with | 0 => TileOut d (at' c s) (tableOf m d) (numsOf m d)
  x := fun _ _ => iprop(∃ ιwm, wmInv EW ιwm)

instance tileIn_storable (d : Dev nD) (i : grid0.Coords) (Tb : S32x1000064.Idx → F .f32) (x : S16384.Idx → BitVec 32)
    (f : S32x16384.Idx → F .f32) : BI.Storable (upEmb : UEmb _ 𝕄) (TileIn d i Tb x f) := by
  unfold TileIn; infer_instance
instance tileOut_storable (d : Dev nD) (i : grid0.Coords) (Tb : S32x1000064.Idx → F .f32) (x : S16384.Idx → BitVec 32) :
    BI.Storable (upEmb : UEmb _ 𝕄) (TileOut d i Tb x) := by
  unfold TileOut; infer_instance

instance P_storable : (P (F := F) m).IsStorable where
  st q d c := match q with
    | 0 => (inferInstance : BI.Storable (upEmb : UEmb _ 𝕄)
      iprop(Reads (numsLoc d) (numsOf m d) ∗ Reads (tableLoc d) (tableOf m d) ∗ (outLoc d ↦[coreCols c]{fullShare} m (outLoc d))))
  dn q d c := match q with
    | 0 => (inferInstance : BI.Storable (upEmb : UEmb _ 𝕄) (outLoc d ↦[coreCols c]{fullShare} outOf (tableOf m d) (numsOf m d)))
  go q d c s := match q with | 0 => tileIn_storable d (at' c s) (tableOf m d) (numsOf m d) (m (outLoc d))
  td q d c s := match q with | 0 => tileOut_storable d (at' c s) (tableOf m d) (numsOf m d)

/-- What the run asks of the launch memory: every row number names a row. -/
def PreOK : Prop := ∀ (d : Dev nD) (j : S16384.Idx), (numsOf m d j).toNat < 1000000

/-! ## A tile's obligation -/

theorem defs₀_vector (c : Fin τ.nSC) (s : Fin τ.nSub) :
    defs₀ (F := F) (.scVector c s) 0 ()
      = SparseCore.onTile hcore0 hsub0 (fun c s => cc0_emb (at' c s)
          numsM (Memref.isWhole_whole _) tableM (Memref.isWhole_whole _) outM (Memref.isWhole_whole _) listM (Memref.isWhole_whole _)
          slotsM (Memref.isWhole_whole _) panelM (Memref.isWhole_whole _) cc0_scratch3 cc0_scoped0 cc0_scoped1) ⟨⟩ c s := rfl

omit [FloatOps F] in
theorem waits_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact (tile_body d (at' ⟨_, hcs.1⟩ ⟨_, hcs.2⟩) (tableOf m d) (numsOf m d) hF (hpre d) (m (outLoc d)) O W hO).trans
    (wp_mono frame _ _ fun _ => waits_widen)

/-! ## A SparseCore's split among its tiles -/

theorem split_tiles (d : Dev nD) (c : Fin (grid0.bound 0)) :
    iprop(Reads (numsLoc d) (numsOf m d) ∗ Reads (tableLoc d) (tableOf m d) ∗ (outLoc d ↦[coreCols c]{fullShare} m (outLoc d)))
    ⊢ |={Set.univ}=> (iprop(
      (bigSep Finset.univ fun s : Fin (grid0.bound 1) => TileIn d (at' c s) (tableOf m d) (numsOf m d) (m (outLoc d)))
      ∗ ((bigSep Finset.univ fun s : Fin (grid0.bound 1) => TileOut d (at' c s) (tableOf m d) (numsOf m d))
          -∗ (outLoc d ↦[coreCols c]{fullShare} outOf (tableOf m d) (numsOf m d)))) : sProp 𝕄) := by
  unfold TileIn TileOut
  rw [bigSep_sep', bigSep_sep', out_tiles, out_tiles]
  iintro ⟨Hx, HT, Ho⟩
  ihave Hx := (reads_spread (numsLoc d) (numsOf m d) (Finset.univ : Finset (Fin (grid0.bound 1)))) $$ Hx
  ihave HT := (reads_spread (tableLoc d) (tableOf m d) (Finset.univ : Finset (Fin (grid0.bound 1)))) $$ HT
  icases Hx with ⟨Hx, -⟩
  icases HT with ⟨HT, -⟩
  imodintro
  isplitl [Hx HT Ho]
  · isplitl [Hx]; · iexact Hx
    isplitl [HT]; · iexact HT
    iexact Ho
  iintro H; iexact H

set_option maxRecDepth 16384 in
theorem vecSplit : (K (F := F)).VecSplit' (P m) 0 := fun d c => split_tiles m d c

/-! ## The ghost state at launch -/

/-- The handshakes' rounds, the write mode over no buffer yet, and the counters. -/
def u₀ : UU F := (initOf (K (F := F)).hsCells (K (F := F)).hsToks, (wm₀ nD τ sig (Elt F), 1))

theorem inv_spread {ι : Type} [DecidableEq ι] (s : Finset ι) (A : sProp 𝕄) [BI.Persistent A] : A ⊢ bigSep s fun _ => A := by
  induction s using Finset.induction_on with
  | empty => rw [bigSep_empty]; iintro -; iempintro
  | insert a s ha ih =>
    rw [SparseCore.bigSep_insert' ha]
    iintro #H
    isplitr; · iexact H
    iapply ih; iexact H

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) ((wm₀ nD τ sig (Elt F), 1) : UW F × Counters)) $$ Hu
  icases H with ⟨HH, Hw⟩
  ihave Hw := (own_pair_emb (embR (nD := nD) (τ := τ) (sig := sig) (Ix := HIx 1) (Val := Elt F) (Name := ℕ) (Lvl := ℕ) (A := UH) (B := UW F × Counters))
    (wm₀ nD τ sig (Elt F)) (1 : Counters)) $$ Hw
  icases Hw with ⟨Hw, -⟩
  ihave Hw := (show BI.own (((Emb.inl : Emb (UW F) (UW F × Counters)).trans
      (embR (nD := nD) (τ := τ) (sig := sig) (Ix := HIx 1) (Val := Elt F) (Name := ℕ) (Lvl := ℕ) (A := UH) (B := UW F × Counters)))
      (wm₀ nD τ sig (Elt F))) ⊢ (ownU (EW (wm₀ nD τ sig (Elt F))) : sProp 𝕄) from .rfl) $$ Hw
  imod (wmInv_alloc (emb := EW (F := F)) ⟨m, fun _ => 0, fun _ => default⟩ (∅ : Finset ℕ)) $$ Hw with ⟨%ιwm, -, #Hwm⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr)
      = bigSep Finset.univ fun _ => iprop(∃ ιwm, wmInv EW ιwm) from
    bigSep_congr fun _ _ => bigSep_univ_of_subsingleton (0 : Fin 1)]
  iapply (inv_spread Finset.univ (iprop(∃ ιwm, wmInv EW ιwm) : sProp 𝕄))
  iexists ιwm; iexact Hwm

end Cert.Proof

end
-- ==== Proof.Main.lean ====
/-
  The TensorCore's program around the launch, and the whole program's run.
-/
module

public import proofs.«01_k».proof.Proof.Launch

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo
open Cert.Proof.Flight

variable {F : FTy → Type} [FloatOps F]

local notation "𝕄" => MT nD τ sig (HIx 1) (Elt F) ℕ (UU F) ℕ

/-! ## The host's operations -/

/-- The table turned on its side, -/
abbrev opTurn : HloOp τ sig (Elt F) :=
  StableHlo.unary main_arg1 main_v0 ((transpose S32x1000000 [1, 0] · transposes_S1000000x32_S32x1000000_1_0) :
    (⟨S1000000x32, .f32⟩ : BufTy).Contents (Elt F) → (⟨S32x1000000, .f32⟩ : BufTy).Contents (Elt F))
/-- the value it is widened with, as an integer -/
abbrev opZero : HloOp τ sig (Elt F) := StableHlo.nullary main_c (constantI S_ 32 0#32)
/-- and as a float, -/
abbrev opFill : HloOp τ sig (Elt F) :=
  TRef.unary (TRef.of (T := ⟨S_, .i32⟩) main_c) (TRef.of (T := ⟨S_, .f32⟩) main_call0_v0) (sitofp .f32)
/-- the table widened, -/
abbrev opWiden : HloOp τ sig (Elt F) :=
  TRef.binary (TRef.of (T := ⟨S32x1000000, .f32⟩) main_v0) (TRef.of (T := ⟨S_, .f32⟩) main_call0_v0) (TRef.of (T := ⟨S32x1000064, .f32⟩) main_v1)
    (fun x v => pad S32x1000064 ![0, 0] ![0, 64] ![0, 0] x v pads_S32x1000000_S32x1000064_000_0640 h_S_)
/-- and, after the launch, the result turned back. -/
abbrev opBack : HloOp τ sig (Elt F) :=
  StableHlo.unary main_v2 main_v3 ((transpose S16384x32 [1, 0] · transposes_S32x16384_S16384x32_1_0) :
    (⟨S32x16384, .f32⟩ : BufTy).Contents (Elt F) → (⟨S16384x32, .f32⟩ : BufTy).Contents (Elt F))

abbrev rX : DevRef τ sig := Proc.devRef .tc main_arg0
abbrev rT : DevRef τ sig := Proc.devRef .tc main_arg1
abbrev r0 : DevRef τ sig := Proc.devRef .tc main_v0
abbrev rC : DevRef τ sig := Proc.devRef .tc main_c
abbrev rF : DevRef τ sig := Proc.devRef .tc main_call0_v0
abbrev r1 : DevRef τ sig := Proc.devRef .tc main_v1
abbrev r2 : DevRef τ sig := Proc.devRef .tc main_v2
abbrev r3 : DevRef τ sig := Proc.devRef .tc main_v3

/-- All the TensorCore's arrays, -/
abbrev all : Finset (DevRef τ sig) := {rX, rT, r0, rC, rF, r1, r2, r3}
/-- and the last two. -/
abbrev last : Finset (DevRef τ sig) := {r2, r3}

abbrev loc (d : Dev nD) (b : Ref sig .tc) : Loc nD τ sig := (SparseCore.T d).loc b

theorem held_all (d : Dev nD) (W : Valuation τ sig (Elt F)) :
    (held (T d) all W : sProp 𝕄)
      = iprop((loc d main_arg0 ↦{fullShare} W rX) ∗ (loc d main_arg1 ↦{fullShare} W rT) ∗ (loc d main_v0 ↦{fullShare} W r0)
          ∗ (loc d main_c ↦{fullShare} W rC) ∗ (loc d main_call0_v0 ↦{fullShare} W rF) ∗ (loc d main_v1 ↦{fullShare} W r1)
          ∗ (loc d main_v2 ↦{fullShare} W r2) ∗ (loc d main_v3 ↦{fullShare} W r3)) := by
  unfold held all
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem held_last (d : Dev nD) (W : Valuation τ sig (Elt F)) :
    (held (T d) last W : sProp 𝕄) = iprop((loc d main_v2 ↦{fullShare} W r2) ∗ (loc d main_v3 ↦{fullShare} W r3)) := by
  unfold held last
  rw [SparseCore.bigSep_insert' (by decide), bigSep_singleton]

theorem unscoped_all (d : Dev nD) (W : (b : Ref sig .tc) → Buf (Elt F) ((d.tc : Thread nD τ).loc b)) :
    (unscopedBufs d W : sProp 𝕄)
      = iprop((loc d main_arg0 ↦{fullShare} W main_arg0) ∗ (loc d main_arg1 ↦{fullShare} W main_arg1) ∗ (loc d main_v0 ↦{fullShare} W main_v0)
          ∗ (loc d main_c ↦{fullShare} W main_c) ∗ (loc d main_call0_v0 ↦{fullShare} W main_call0_v0) ∗ (loc d main_v1 ↦{fullShare} W main_v1)
          ∗ (loc d main_v2 ↦{fullShare} W main_v2) ∗ (loc d main_v3 ↦{fullShare} W main_v3)) := by
  unfold unscopedBufs
  rw [show (Finset.univ.filter fun b : Ref sig .tc => ¬ b.isScoped)
      = {main_arg0, main_arg1, main_v0, main_c, main_call0_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable (m : (ℓ : Loc nD τ sig) → Buf (Elt F) ℓ) (ρ : Dev nD → PrngReg)

/-- The device's arrays at launch, -/
def V0 (d : Dev nD) : Valuation τ sig (Elt F) := fun b => m (d, b)
/-- and as the launch finds them. -/
def V4 (d : Dev nD) : Valuation τ sig (Elt F) :=
  (opWiden (F := F)).result ((opFill (F := F)).result ((opZero (F := F)).result ((opTurn (F := F)).result (V0 m d))))

theorem unscoped_held (d : Dev nD) : (unscopedBufs d (fun b => m ((SparseCore.T d).loc b)) : sProp 𝕄) = held (T d) all (V0 m d) := by
  rw [unscoped_all, held_all]; rfl

theorem V4_after (d : Dev nD) : V4 m d = after [opTurn (F := F), opZero, opFill, opWiden] (V0 m d) := rfl

theorem V4_x (d : Dev nD) : V4 m d rX = m (loc d main_arg0) := by
  rw [V4_after]; simp only [opFill, opWiden, TRef.binary, TRef.unary, TRef.toBuf, TRef.ofBuf, cast_eq]; after_results <;> rfl
theorem V4_t (d : Dev nD) : V4 m d rT = m (loc d main_arg1) := by
  rw [V4_after]; simp only [opFill, opWiden, TRef.binary, TRef.unary, TRef.toBuf, TRef.ofBuf, cast_eq]; after_results <;> rfl
theorem V4_v1 (d : Dev nD) : V4 m d r1 = tableOf m d := by
  rw [V4_after]; simp only [opFill, opWiden, TRef.binary, TRef.unary, TRef.toBuf, TRef.ofBuf, cast_eq]; after_results <;> rfl
theorem V4_v2 (d : Dev nD) : V4 m d r2 = m (loc d main_v2) := by
  rw [V4_after]; simp only [opFill, opWiden, TRef.binary, TRef.unary, TRef.toBuf, TRef.ofBuf, cast_eq]; after_results <;> rfl

theorem turn_sub : (opTurn (F := F)).bufs ⊆ all := show ({rT, r0} : Finset (DevRef τ sig)) ⊆ all by decide
theorem zero_sub : (opZero (F := F)).bufs ⊆ all := show ({rC} : Finset (DevRef τ sig)) ⊆ all by decide
theorem fill_sub : (opFill (F := F)).bufs ⊆ all := show ({rC, rF} : Finset (DevRef τ sig)) ⊆ all by decide
theorem widen_sub : (opWiden (F := F)).bufs ⊆ all := show ({r0, rF, r1} : Finset (DevRef τ sig)) ⊆ all by decide
theorem back_sub : (opBack (F := F)).bufs ⊆ last := show ({r2, r3} : Finset (DevRef τ sig)) ⊆ last by decide

/-! ## The TensorCore's program -/

/-- The whole result: row `p` of it is the table's row that the `p`-th row number names. -/
def resOf (d : Dev nD) : S16384x32.Idx → F .f32 :=
  transpose S16384x32 [1, 0] (outOf (tableOf m d) (numsOf m d)) transposes_S32x16384_S16384x32_1_0

/-- What is left in the end: the row numbers and the table as they were, and the result. -/
abbrev FIN (d : Dev nD) : sProp 𝕄 :=
  iprop(Reads (numsLoc d) (numsOf m d) ∗ (loc d main_arg1 ↦{fullShare} m (loc d main_arg1)) ∗ (loc d main_v3 ↦{fullShare} resOf m d))

/-- The arrays after the launch, as the last operation finds them. -/
def V5 (d : Dev nD) : Valuation τ sig (Elt F) := Function.update (V4 m d) r2 (outOf (tableOf m d) (numsOf m d))

theorem V5_v2 (d : Dev nD) : V5 m d r2 = outOf (tableOf m d) (numsOf m d) := Function.update_self _ _ _
theorem V5_v3 (d : Dev nD) : V5 m d r3 = V4 m d r3 := Function.update_of_ne (show r3 ≠ r2 by decide) _ _
theorem back_v3 (d : Dev nD) : (opBack (F := F)).result (V5 m d) r3 = resOf m d :=
  (StableHlo.unary_result _ _ _ _ _ _).trans (by rw [V5_v2]; rfl)

theorem st_all (d : Dev nD) :
    (bigSep Finset.univ fun c : Fin ((K (F := F)).nCore 0) => (P m).st 0 d c)
      = iprop((bigSep Finset.univ fun _ : Fin (grid0.bound 0) => Reads (numsLoc d) (numsOf m d))
          ∗ (bigSep Finset.univ fun _ : Fin (grid0.bound 0) => Reads (tableLoc d) (tableOf m d)) ∗ (outLoc d ↦{fullShare} m (outLoc d))) := by
  rw [out_cores d (m (outLoc d)), ← bigSep_sep', ← bigSep_sep']
  rfl
theorem dn_all (d : Dev nD) :
    (bigSep Finset.univ fun c : Fin ((K (F := F)).nCore 0) => (P m).dn 0 d c) = (outLoc d ↦{fullShare} outOf (tableOf m d) (numsOf m d)) := by
  rw [out_cores d (outOf (tableOf m d) (numsOf m d))]
  rfl

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  -- the table is turned and widened
  iapply (wp_hlo_within 𝒱 (SparseCore.T d) none Set.univ (op := opTurn) (S := all) turn_sub (V := V0 m d)) $$ [Hb Hheld]
  · isplitl [Hb] <;> iassumption
  iintro ⟨Hb, Hheld⟩
  rw [wp_ret]; imodintro
  iapply (wp_hlo_within 𝒱 (SparseCore.T d) none Set.univ (op := opZero) (S := all) zero_sub (V := (opTurn (F := F)).result (V0 m d))) $$ [Hb Hheld]
  · isplitl [Hb] <;> iassumption
  iintro ⟨Hb, Hheld⟩
  rw [wp_ret]; imodintro
  iapply (wp_hlo_within 𝒱 (SparseCore.T d) none Set.univ (op := opFill) (S := all) fill_sub
    (V := (opZero (F := F)).result ((opTurn (F := F)).result (V0 m d)))) $$ [Hb Hheld]
  · isplitl [Hb] <;> iassumption
  iintro ⟨Hb, Hheld⟩
  rw [wp_ret]; imodintro
  iapply (wp_hlo_within 𝒱 (SparseCore.T d) none Set.univ (op := opWiden) (S := all) widen_sub
    (V := (opFill (F := F)).result ((opZero (F := F)).result ((opTurn (F := F)).result (V0 m d))))) $$ [Hb Hheld]
  · isplitl [Hb] <;> iassumption
  iintro ⟨Hb, Hheld⟩
  rw [wp_ret]; imodintro
  imodintro
  ihave Hh := (show (held (SparseCore.T d) all (opWiden.result (opFill.result (opZero.result (opTurn.result (V0 m d))))) : sProp 𝕄) ⊢ _
    from Entails.of_eq (held_all d (V4 m d))) $$ Hheld
  rw [V4_x, V4_t, V4_v1, V4_v2]
  icases Hh with ⟨Hx, Ht, -, -, -, HT, Ho, Hr⟩
  -- the row numbers and the table are shared out, and the tiles lay down the result
  ihave Hx := (show (loc d main_arg0 ↦{fullShare} m (loc d main_arg0) : sProp 𝕄) ⊢ Reads (numsLoc d) (numsOf m d) from by
    unfold Reads; iintro H; iexists fullShare; iexact H) $$ Hx
  ihave HT := (show (loc d main_v1 ↦{fullShare} tableOf m d : sProp 𝕄) ⊢ Reads (tableLoc d) (tableOf m d) from by
    unfold Reads; iintro H; iexists fullShare; iexact H) $$ HT
  ihave Hx := (reads_spread (numsLoc d) (numsOf m d) (Finset.univ : Finset (Fin (grid0.bound 0)))) $$ Hx
  ihave HT := (reads_spread (tableLoc d) (tableOf m d) (Finset.univ : Finset (Fin (grid0.bound 0)))) $$ HT
  icases Hx with ⟨Hxs, Hx⟩
  icases HT with ⟨HTs, -⟩
  iapply ((K (F := F)).wp_run (D (F := F)) 𝒱 (EH := EH) (P := P m) κ d 0) $$ [Hst Hxs HTs Ho Hb Hx Ht Hr Hts]
  isplitr; · iexact Hctx
  isplitl [Hst]; · iexact Hst
  isplitl [Hxs HTs Ho]
  · rw [st_all]
    isplitl [Hxs]; · iexact Hxs
    isplitl [HTs]; · iexact HTs
    iexact Ho
  iintro ⟨Hst, Hdn⟩
  ihave Ho := (Entails.of_eq (dn_all m d)) $$ Hdn
  -- the result is turned back
  iapply (wp_hlo_within 𝒱 (SparseCore.T d) none Set.univ (op := opBack) (S := last) back_sub (V := V5 m d)) $$ [Hb Ho Hr]
  · isplitl [Hb]; · iexact Hb
    rw [held_last, V5_v2, V5_v3]
    isplitl [Ho]; · iexact Ho
    iexact Hr
  iintro ⟨Hb, Hheld⟩
  ihave Hh := (Entails.of_eq (held_last (F := F) d _)) $$ Hheld
  rw [back_v3]
  icases Hh with ⟨-, Hr⟩
  rw [wp_ret]; imodintro; imodintro
  isplitl [Hst]; · iexact Hst
  isplitr [Hb Hts]
  · isplitl [Hx]; · iexact Hx
    isplitl [Ht]; · iexact Ht
    iexact Hr
  isplitl [Hb] <;> iassumption

/-! ## The run -/

/-- What the run leaves of device `d`'s arrays. -/
def fq (d : Dev nD) (s' : Phys nD τ sig (Elt F)) : Prop :=
  s'.mem.mem (loc d main_v3) = resOf m d ∧ s'.mem.mem (loc d main_arg0) = m (loc d main_arg0) ∧ s'.mem.mem (loc d main_arg1) = m (loc d main_arg1)

set_option maxRecDepth 16384 in
theorem hfin (d : Dev nD) (s' : Phys nD τ sig (Elt F)) : iprop(FIN m d ∗ SI s') ⊢ (⌜fq m d s'⌝ : sProp 𝕄) := by
  unfold FIN
  iintro ⟨⟨Hx, Ht, Hr⟩, HSI⟩
  icases (show Reads (numsLoc d) (numsOf m d) ⊢ (iprop(∃ q, numsLoc d ↦[Finset.univ]{q} numsOf m d) : sProp 𝕄) from .rfl) $$ Hx with ⟨%q, Hx⟩
  ihave H := (persistent_entails_right (SI_pointsTo_agree (st := s') (ℓ := numsLoc d) (I := Finset.univ) (q := q) (f := numsOf m d))) $$ [HSI Hx]
  · isplitl [HSI] <;> iassumption
  icases H with ⟨%hx, HSI, -⟩
  ihave H := (persistent_entails_right (SI_pointsTo_agree (st := s') (ℓ := loc d main_arg1) (I := Finset.univ) (q := fullShare)
    (f := m (loc d main_arg1)))) $$ [HSI Ht]
  · isplitl [HSI] <;> iassumption
  icases H with ⟨%ht, HSI, -⟩
  ihave H := (SI_pointsTo_agree (st := s') (ℓ := loc d main_v3) (I := Finset.univ) (q := fullShare) (f := resOf m d)) $$ [HSI Hr]
  · isplitl [HSI] <;> iassumption
  icases H with %hr
  ipureintro
  exact ⟨funext fun j => hr j (Finset.mem_univ j), funext fun j => hx j (Finset.mem_univ j), funext fun j => ht j (Finset.mem_univ j)⟩

/-- What the run leaves: the result, the arguments as they were, and every semaphore at zero. -/
def Q : PUnit × MemSt nD τ sig (Elt F) → Prop := fun r =>
  (∀ c : Dev nD, r.2.mem (loc c main_v3) = resOf m c ∧ r.2.mem (loc c main_arg0) = m (loc c main_arg0)
    ∧ r.2.mem (loc c main_arg1) = m (loc c main_arg1)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (Q m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Q m) (fun _ h hz => ⟨h, hz⟩)

end Cert.Proof

end
-- ==== Proof.Value.lean ====
/-
  What the kernel's result and the reference's term hold: the same rows of the table.
-/
module

public import proofs.«01_k».proof.Proof.Main
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_in_range
public import Idealize.ShloMosaic.Lib.ReduceAll
public import Idealize.ShloMosaic.Lib.KernelVsHost

@[expose] public section

noncomputable section

namespace Cert.Proof

open Cert.KernelIdeal Cert.KernelIdeal.Gen
open Idealize.ShloMosaic Idealize.ShloMosaic.TcCoe Idealize.SL.Sem

variable {F : FTy → Type} [FloatOps F]

/-- The table's entry in row `r` and column `c`. -/
def entryAt (r : ℕ) (c : Fin 32) : S1000000x32.Idx := fun a => match a with
  | ⟨0, _⟩ => (⟨r % 1000000, Nat.mod_lt _ (by decide)⟩ : Fin 1000000)
  | ⟨1, _⟩ => c

/-- The rows of the table `t` that the numbers `x` name, in order. -/
def rowsOf (t : S1000000x32.Idx → F .f32) (x : S16384.Idx → BitVec 32) : S16384x32.Idx → F .f32 :=
  fun j => t (entryAt (x (rowAt (j 0).val)).toNat (j 1))

/-! ## The kernel -/

/-- The widened table, turned, holds the table's entries in its first million columns. -/
theorem wide_cell (t : S1000000x32.Idx → F .f32) (c : Fin 32) (r : ℕ) (hr : r < 1000000) : wide t (cellAt c r) = t (entryAt r c) := by
  unfold wide
  rw [pad_apply_of_inside (k := (fun a => match a with
      | ⟨0, _⟩ => c
      | ⟨1, _⟩ => (⟨r, hr⟩ : Fin 1000000) : S32x1000000.Idx))]
  · unfold transpose
    congr 1
    funext a
    refine Fin.ext ?_
    match a with
    | ⟨0, _⟩ => exact (Nat.mod_eq_of_lt hr).symm
    | ⟨1, _⟩ => rfl
  · intro a
    match a with
    | ⟨0, _⟩ => simp [cellAt]
    | ⟨1, _⟩ => simp [cellAt]; omega

/-- The kernel's result is those rows. -/
theorem res_rows (m : (ℓ : Loc nD τ sig) → Buf (Elt F) ℓ) (h : PreOK m) (d : Dev nD) :
    resOf m d = rowsOf (m (loc d main_arg1)) (numsOf m d) := by
  funext j
  unfold resOf
  show outOf (tableOf m d) (numsOf m d) (transposes_S32x16384_S16384x32_1_0.src j) = _
  show wide (m (loc d main_arg1)) (cellAt (j 1) (numsOf m d (rowAt (j 0).val)).toNat) = _
  exact wide_cell _ _ _ (h d _)

/-! ## The reference -/

/-- The reference's row numbers: a negative number counts from the table's end. -/
def wrapped (x : S16384.Idx → BitVec 32) : Cert.Reference.S16384x1.Idx → BitVec 32 :=
  broadcastInDim Cert.Reference.S16384x1 ![0] Cert.Reference.Gen.bcast_S16384_S16384x1_0
    (select (cmpi .slt x (broadcastInDim Cert.Reference.S16384 ![] Cert.Reference.Gen.bcast_S_S16384 (constantI Cert.Reference.S_ 32 0#32)))
      (addi x (broadcastInDim Cert.Reference.S16384 ![] Cert.Reference.Gen.bcast_S_S16384 (constantI Cert.Reference.S_ 32 1000000#32))) x)

/-- Which of them name a row of the table. -/
def inside (x : S16384.Idx → BitVec 32) : Cert.Reference.S16384.Idx → BitVec 1 :=
  Host.reduce IntOp.andi
    (andi
      (cmpi .sge (wrapped x)
        (broadcastInDim Cert.Reference.S16384x1 ![] Cert.Reference.Gen.bcast_S_S16384x1 (constantI Cert.Reference.S_ 32 0#32)))
      (cmpi .sle (wrapped x)
        (broadcastInDim Cert.Reference.S16384x1 ![0, 1] Cert.Reference.Gen.bcast_S1x1_S16384x1_0_1
          (broadcastInDim Cert.Reference.S1x1 ![1] Cert.Reference.Gen.bcast_S1_S1x1_1 (constantI Cert.Reference.S1 32 999999#32)))))
    (constantI Cert.Reference.S_ 1 1#1) Cert.Reference.Gen.reducesTo_S16384x1_S16384_d1 Cert.Reference.Gen.h_S_

/-- The reference's result: the row where the number names one, and not-a-number elsewhere. -/
def refOf (t : S1000000x32.Idx → F .f32) (x : S16384.Idx → BitVec 32) : S16384x32.Idx → F .f32 :=
  select (broadcastInDim Cert.Reference.S16384x32 ![0] Cert.Reference.Gen.bcast_S16384_S16384x32_0 (inside x))
    (Host.gather Cert.Reference.gather_S1000000x32_S16384x1_S16384x32_1_0_n_n_0_1_132 t (wrapped x))
    (broadcastInDim Cert.Reference.S16384x32 ![] Cert.Reference.Gen.bcast_S_S16384x32 (constant Cert.Reference.S_ .f32 0x7FC00000#32))

/-- A number in range, read signed. -/
theorem toInt_of_lt (v : BitVec 32) (h : v.toNat < 1000000) : v.toInt = v.toNat := by
  rw [BitVec.toInt_eq_toNat_cond]; omega

theorem wrapped_eq (x : S16384.Idx → BitVec 32) (h : ∀ j, (x j).toNat < 1000000) (i : Cert.Reference.S16384x1.Idx) :
    wrapped x i = x (rowAt (i 0).val) := by
  unfold wrapped broadcastInDim
  show Scalar.select (IntOp.cmpi .slt (x _) 0#32) (x _ + 1000000#32) (x _) = _
  unfold Scalar.select
  rw [if_neg (fun e => by
    have := IntOp.cmpi_slt.1 e
    rw [toInt_of_lt _ (h _)] at this
    exact absurd this (by simp))]
  congr 1
  funext a
  match a with
  | ⟨0, _⟩ => exact Fin.ext (Nat.mod_eq_of_lt (i 0).isLt).symm

theorem inside_eq (x : S16384.Idx → BitVec 32) (h : ∀ j, (x j).toNat < 1000000) (j : Cert.Reference.S16384.Idx) : inside x j = 1#1 := by
  refine Host.reduce_andi_one _ _ _ _ j rfl fun i => ?_
  refine IntOp.andi_eq_one.2 ⟨IntOp.cmpi_sge.2 ?_, IntOp.cmpi_sle.2 ?_⟩
  · rw [wrapped_eq x h, toInt_of_lt _ (h _)]
    show (0 : ℤ) ≤ _
    omega
  · rw [wrapped_eq x h, toInt_of_lt _ (h _)]
    show _ ≤ (999999 : ℤ)
    have := h (rowAt (i 0).val); omega

open GatherDims in
theorem gather_rows (t : S1000000x32.Idx → F .f32) (ix : Cert.Reference.S16384x1.Idx → BitVec 32) (j : S16384x32.Idx)
    (r : ℕ) (hr : r < 1000000) (h : ∀ i : Cert.Reference.S16384x1.Idx, (i 0).val = (j 0).val → (ix i).toInt.toNat = r) :
    Host.gather Cert.Reference.gather_S1000000x32_S16384x1_S16384x32_1_0_n_n_0_1_132 t ix j = t (entryAt r (j 1)) := by
  unfold Host.gather
  congr 1
  funext a
  refine Fin.ext ?_
  show start _ j ix a + batchCoord _ j a + offCoord _ j a = _
  have h01 : a = 0 ∨ a = 1 := by
    match a with
    | ⟨0, _⟩ => exact Or.inl rfl
    | ⟨1, _⟩ => exact Or.inr rfl
  rcases h01 with rfl | rfl
  · rw [batchCoord_eq_zero _ _ _ List.not_mem_nil,
      offCoord_eq_zero _ _ _ (fun h => ((mem_sKept _ _).mp h).1 (List.mem_singleton.mpr rfl))]
    unfold start
    rw [dif_pos (show (0 : Fin 2) ∈ Cert.Reference.gather_S1000000x32_S16384x1_S16384x32_1_0_n_n_0_1_132.startIndexMap
      from List.mem_singleton.mpr rfl), h _ rfl]
    show min r (1000000 - 1) + 0 + 0 = r % 1000000
    rw [Nat.mod_eq_of_lt hr]; omega
  · rw [batchCoord_eq_zero _ _ _ List.not_mem_nil]
    unfold start
    rw [dif_neg (show (1 : Fin 2) ∉ Cert.Reference.gather_S1000000x32_S16384x1_S16384x32_1_0_n_n_0_1_132.startIndexMap
      from by decide)]
    show 0 + 0 + (j 1).val = (j 1).val
    omega

theorem ref_rows (t : S1000000x32.Idx → F .f32) (x : S16384.Idx → BitVec 32) (h : ∀ j, (x j).toNat < 1000000) :
    refOf t x = rowsOf t x := by
  funext j
  have hr := h (rowAt (j 0).val)
  unfold refOf select Scalar.select
  rw [if_pos (show broadcastInDim Cert.Reference.S16384x32 ![0] Cert.Reference.Gen.bcast_S16384_S16384x32_0 (inside x) j = 1 from
      inside_eq x h _),
    gather_rows t (wrapped x) j (x (rowAt (j 0).val)).toNat hr (fun i e => by
    rw [wrapped_eq x h, e, toInt_of_lt _ hr]; rfl)]
  rfl

/-! ## The precondition -/

/-- The precondition says that every row number is one of the table's. -/
theorem ok_of_pre (m : (ℓ : Loc nD τ sig) → Buf (Elt F) ℓ)
    (h : ∀ c : Dev nD, Cert.Pre_in_range.fn (F := F) (m (loc c main_arg0)) (m (loc c main_arg1)) = fun _ => 1#1) : PreOK m := by
  intro d j
  have e := congrFun (h d) (fun a => a.elim0)
  haveI : Subsingleton Cert.Pre_in_range.S_.Idx := ⟨fun a b => funext fun i => i.elim0⟩
  obtain ⟨h0, h1⟩ := IntOp.andi_eq_one.1 (Host.reduce_andi_all _ _ _ _ _ e j)
  have h0 := IntOp.cmpi_sge.1 h0
  have h1 := IntOp.cmpi_slt.1 h1
  have h0 : (0 : ℤ) ≤ (numsOf m d j).toInt := h0
  have h1 : (numsOf m d j).toInt < 1000000 := h1
  rw [BitVec.toInt_eq_toNat_cond] at h0 h1
  split at h0 <;> omega

end Cert.Proof

end
-- ==== Proof.lean ====
/-
  The claims. Proof/Main.lean has the kernel's run, once, for any float values; Proof/Value.lean has what its result and the
  reference's term hold. Here the two are put together:

  * each program's frame is read off its run;
  * the two printings of the kernel are one program, so the run over any float values serves both;
  * the value claims equate both programs' results with the rows of the table that the numbers name.
-/
module

public import proofs.«01_k».proof.Defs
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Gen.Pre_in_range
public import Idealize.ShloMosaic.Lib.Claim

@[expose] public section

noncomputable section

namespace Cert.Proof

open Idealize.ShloMosaic Idealize.SL.Sem

/-! ## Frames: every program ends, its arguments as they were and every semaphore at zero -/

theorem frame_kernel : Cert.quiescent_Kernel := fun m ρ hpre =>
  (θ_run Cert.KernelIdeal.defs _ _).mono (fun _ h => ⟨fun c => (h.1 c).2, h.2⟩) (run_main (F := Bits) m ρ (ok_of_pre m hpre))

theorem frame_kernelIdeal : Cert.quiescent_KernelIdeal := fun m ρ hpre =>
  (θ_run Cert.KernelIdeal.defs _ _).mono (fun _ h => ⟨fun c => (h.1 c).2, h.2⟩) (run_main (F := Ideal) m ρ (ok_of_pre m hpre))

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_referenceIdeal_in_range : Cert.quiescent_ReferenceIdeal_pre_in_range := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

/-! ## Values -/

/-- On the bits, the kernel's result is the reference's. -/
theorem bitexact : Cert.bitexact_Kernel_Reference := by
  intro m g m' g' hpre hagree
  have hok := ok_of_pre m hpre
  refine ⟨fun c => rowsOf (F := Bits) (m (loc c Cert.KernelIdeal.main_arg1)) (numsOf (F := Bits) m c), ?_, ?_⟩
  · exact (θ_run Cert.KernelIdeal.defs _ _).mono
      (fun _ h c => ⟨(h.1 c).1.trans (res_rows m hok c), (h.1 c).2⟩) (run_main (F := Bits) m g hok)
  · refine (θ_run Cert.Reference.defs _ _).mono (fun _ h c => ⟨(h c).1.trans ?_, (h c).2⟩) (Cert.Reference.Value.run m' g')
    rw [(hagree c).1, (hagree c).2]
    exact ref_rows (F := Bits) (m (loc c Cert.KernelIdeal.main_arg1)) (numsOf m c) (hok c)

/-- Over the extended reals, the kernel's result is the reference's. -/
theorem algebraic : Cert.algebraic_KernelIdeal_ReferenceIdeal := by
  intro m g m' g' hpre hagree
  have hok := ok_of_pre m hpre
  refine ⟨fun c => rowsOf (F := Ideal) (m (loc c Cert.KernelIdeal.main_arg1)) (numsOf (F := Ideal) m c), ?_, ?_⟩
  · exact (θ_run Cert.KernelIdeal.defs _ _).mono
      (fun _ h c => ⟨(h.1 c).1.trans (res_rows m hok c), (h.1 c).2⟩) (run_main (F := Ideal) m g hok)
  · refine (θ_run Cert.ReferenceIdeal.defs _ _).mono (fun _ h c => ⟨(h c).1.trans ?_, (h c).2⟩) (Cert.ReferenceIdeal.Value.run m' g')
    rw [(hagree c).1, (hagree c).2]
    exact ref_rows (F := Ideal) (m (loc c Cert.KernelIdeal.main_arg1)) (numsOf m c) (hok c)

theorem claim : Cert.Claim :=
  ⟨Cert.Kernel.Gen.facts, Cert.KernelIdeal.Gen.facts, Cert.ReferenceIdeal.Gen.facts, Cert.Reference.Gen.facts, Cert.Pre_in_range.Gen.facts,
    frame_kernel, frame_kernelIdeal, frame_referenceIdeal, frame_referenceIdeal_in_range, frame_reference, trivial, bitexact, algebraic⟩

end Cert.Proof

end
